-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S1x32x2x128 Cert.KernelIdeal.S1x32x1x128
  ∧ IdealRules.bf16_pair.SelectZeroStatement Cert.KernelIdeal.S32x128
  ∧ IdealRules.bf16_pair.HalfStatement Cert.KernelIdeal.S32x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S27x192x2x128 : Shape := ⟨4, ![27, 192, 2, 128]⟩
abbrev S192x128 : Shape := ⟨2, ![192, 128]⟩
abbrev S3456x2816 : Shape := ⟨2, ![3456, 2816]⟩
abbrev S2816 : Shape := ⟨1, ![2816]⟩
abbrev S_ : Shape := ⟨0, ![]⟩

class Facts : Prop where
  bitsLt_bf16_f32 : FTy.bits .bf16 < FTy.bits .f32
  bcast_S_S27x192x2x128 : S_.BroadcastsInDim S27x192x2x128 (![] : Fin 0 → Fin S27x192x2x128.rank)

variable [Facts]

def fn {F : FTy → Type} [FloatOps F] (main_arg0 : FVec F S27x192x2x128 .bf16) (main_arg1 : IVec S192x128 32) (main_arg2 : FVec F S3456x2816 .fp8e4m3) (main_arg3 : FVec F S2816 .f32) : IVec S27x192x2x128 1 :=
  let main_v0 : FVec F S27x192x2x128 .f32 := (extf .f32 · bitsLt_bf16_f32) main_arg0
  let main_v1 : FVec F S27x192x2x128 .f32 := Host.absf main_v0
  let main_cst : FVec F S_ .f32 := constant S_ .f32 0x7F000000#32
  let main_v2 : FVec F S27x192x2x128 .f32 := broadcastInDim S27x192x2x128 ![] bcast_S_S27x192x2x128 main_cst
  let main_v3 : IVec S27x192x2x128 1 := cmpf .olt main_v1 main_v2
  main_v3
-- ==== Kernel.lean ====
abbrev S27x192x2x128 : Shape := ⟨4, ![27, 192, 2, 128]⟩
abbrev S192x128 : Shape := ⟨2, ![192, 128]⟩
abbrev S3456x2816 : Shape := ⟨2, ![3456, 2816]⟩
abbrev S2816 : Shape := ⟨1, ![2816]⟩
abbrev S1x2816 : Shape := ⟨2, ![1, 2816]⟩
abbrev S192x2816 : Shape := ⟨2, ![192, 2816]⟩
abbrev S192x3456 : Shape := ⟨2, ![192, 3456]⟩
abbrev S192 : Shape := ⟨1, ![192]⟩
abbrev S11 : Shape := ⟨1, ![11]⟩
abbrev S_ : Shape := ⟨0, ![]⟩
abbrev S1 : Shape := ⟨1, ![1]⟩
abbrev S3456x256 : Shape := ⟨2, ![3456, 256]⟩
abbrev S32x128 : Shape := ⟨2, ![32, 128]⟩
abbrev S27x192x1x128 : Shape := ⟨4, ![27, 192, 1, 128]⟩
abbrev S27x192x128 : Shape := ⟨3, ![27, 192, 128]⟩
abbrev S1x32x128 : Shape := ⟨3, ![1, 32, 128]⟩
abbrev S1x32x2x128 : Shape := ⟨4, ![1, 32, 2, 128]⟩
abbrev S1x32x1x128 : Shape := ⟨4, ![1, 32, 1, 128]⟩
abbrev S32 : Shape := ⟨1, ![32]⟩
abbrev S32x1 : Shape := ⟨2, ![32, 1]⟩
abbrev S32x255 : Shape := ⟨2, ![32, 255]⟩
abbrev S192x1 : Shape := ⟨2, ![192, 1]⟩
abbrev S192x256 : Shape := ⟨2, ![192, 256]⟩
abbrev S1x256 : Shape := ⟨2, ![1, 256]⟩

abbrev nBuf : Space → Nat
  | .hbm => 8
  | .vmem => 8
  | .smem => 0
  | _ => 0

abbrev bufTy : (tb : Table) → Fin (tcTables nBuf tb) → BufTy
  | .hbm, ⟨0, _⟩ => ⟨S27x192x2x128, .bf16⟩
  | .hbm, ⟨1, _⟩ => ⟨S192x128, .i32⟩
  | .hbm, ⟨2, _⟩ => ⟨S3456x2816, .fp8e4m3⟩
  | .hbm, ⟨3, _⟩ => ⟨S2816, .f32⟩
  | .hbm, ⟨4, _⟩ => ⟨S1x2816, .f32⟩
  | .hbm, ⟨5, _⟩ => ⟨S192x2816, .bf16⟩
  | .hbm, ⟨6, _⟩ => ⟨S192x3456, .fp8e4m3⟩
  | .hbm, ⟨7, _⟩ => ⟨S192, .f32⟩
  | .local _ .vmem, ⟨0, _⟩ => ⟨S27x192x2x128, .bf16⟩
  | .local _ .vmem, ⟨1, _⟩ => ⟨S192x128, .i32⟩
  | .local _ .vmem, ⟨2, _⟩ => ⟨S1x2816, .f32⟩
  | .local _ .vmem, ⟨3, _⟩ => ⟨S192, .f32⟩
  | .local _ .vmem, ⟨4, _⟩ => ⟨S192x3456, .bf16⟩
  | .local _ .vmem, ⟨5, _⟩ => ⟨S192x3456, .fp8e4m3⟩
  | .local _ .vmem, ⟨6, _⟩ => ⟨S3456x2816, .fp8e4m3⟩
  | .local _ .vmem, ⟨7, _⟩ => ⟨S192x2816, .bf16⟩
  | _, _ => ⟨S27x192x2x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [BitOps F]

abbrev grid0 : Pipeline.Grid := .none

abbrev stage0_0 : Fin 1 → Memref sig .tc .vmem S27x192x2x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F]
-- ==== ReferenceIdeal.lean ====
abbrev S27x192x2x128 : Shape := ⟨4, ![27, 192, 2, 128]⟩
abbrev S192x128 : Shape := ⟨2, ![192, 128]⟩
abbrev S3456x2816 : Shape := ⟨2, ![3456, 2816]⟩
abbrev S2816 : Shape := ⟨1, ![2816]⟩
abbrev S192x2816 : Shape := ⟨2, ![192, 2816]⟩
abbrev S192x3456 : Shape := ⟨2, ![192, 3456]⟩
abbrev S192 : Shape := ⟨1, ![192]⟩
abbrev S1x192x128 : Shape := ⟨3, ![1, 192, 128]⟩
abbrev S27x192x1x128 : Shape := ⟨4, ![27, 192, 1, 128]⟩
abbrev S27x192x128 : Shape := ⟨3, ![27, 192, 128]⟩
abbrev S192x1 : Shape := ⟨2, ![192, 1]⟩
abbrev S192x256 : Shape := ⟨2, ![192, 256]⟩
abbrev S1x192x1 : Shape := ⟨3, ![1, 192, 1]⟩
abbrev S1x2816 : Shape := ⟨2, ![1, 2816]⟩

abbrev nBuf : Space → Nat
  | .hbm => 7
  | .vmem => 7
  | .smem => 0
  | _ => 0

abbrev bufTy : (tb : Table) → Fin (tcTables nBuf tb) → BufTy
  | .hbm, ⟨0, _⟩ => ⟨S27x192x2x128, .bf16⟩
  | .hbm, ⟨1, _⟩ => ⟨S192x128, .i32⟩
  | .hbm, ⟨2, _⟩ => ⟨S3456x2816, .fp8e4m3⟩
  | .hbm, ⟨3, _⟩ => ⟨S2816, .f32⟩
  | .hbm, ⟨4, _⟩ => ⟨S192x2816, .bf16⟩
  | .hbm, ⟨5, _⟩ => ⟨S192x3456, .fp8e4m3⟩
  | .hbm, ⟨6, _⟩ => ⟨S192, .f32⟩
  | .local _ .vmem, ⟨0, _⟩ => ⟨S27x192x2x128, .bf16⟩
  | .local _ .vmem, ⟨1, _⟩ => ⟨S192x128, .i32⟩
  | .local _ .vmem, ⟨2, _⟩ => ⟨S3456x2816, .fp8e4m3⟩
  | .local _ .vmem, ⟨3, _⟩ => ⟨S2816, .f32⟩
  | .local _ .vmem, ⟨4, _⟩ => ⟨S192x2816, .bf16⟩
  | .local _ .vmem, ⟨5, _⟩ => ⟨S192x3456, .fp8e4m3⟩
  | .local _ .vmem, ⟨6, _⟩ => ⟨S192, .f32⟩
  | _, _ => ⟨S27x192x2x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S27x192x2x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3456x2816 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S192x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S192x3456 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.BRuns.lean ====
/- What the hand-written frame certificate of `Kernel` shares: @main up to the region, the windows'
   blocks at a point, the staging and scratch memrefs, the semaphores the body uses itself, and the invariant listed. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v1_0, main_v1_1}

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `R0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePostR.arr_in h c 0 rfl).trans ((hA c 0).trans (V_main_arg0 m c)),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S27x192x2x128 .bf16 := win0_0.stage (cfg0.slots t 0)
abbrev hs0_0 (t : Fin cfg0.N) : (ms0_0 t).IsWhole := hstage0_0 0
abbrev ms0_1 (t : Fin cfg0.N) : Memref sig .tc .vmem S192x128 .i32 := win0_1.stage (cfg0.slots t 1)
abbrev hs0_1 (t : Fin cfg0.N) : (ms0_1 t).IsWhole := hstage0_1 0
abbrev ms0_2 (t : Fin cfg0.N) : Memref sig .tc .vmem S1x2816 .f32 := win0_2.stage (cfg0.slots t 2)
abbrev hs0_2 (t : Fin cfg0.N) : (ms0_2 t).IsWhole := hstage0_2 0
abbrev ms0_3 (t : Fin cfg0.N) : Memref sig .tc .vmem S192 .f32 := win0_3.stage (cfg0.slots t 3)
abbrev hs0_3 (t : Fin cfg0.N) : (ms0_3 t).IsWhole := hstage0_3 0
/-- The scratch operands: whole scoped buffers of the kernel's own, passed beside the windows. -/
abbrev scM0_0 : Memref sig .tc .vmem S192x3456 .bf16 := Memref.whole cc0_scratch0
abbrev scM0_1 : Memref sig .tc .vmem S192x3456 .fp8e4m3 := Memref.whole cc0_scratch1
abbrev scM0_2 : Memref sig .tc .vmem S3456x2816 .fp8e4m3 := Memref.whole cc0_scratch2
abbrev scM0_3 : Memref sig .tc .vmem S192x2816 .bf16 := Memref.whole cc0_scratch3
/-- The operands left in HBM that the body copies into scratch itself, whole. -/
abbrev hbM0_0 : Memref sig .tc .hbm S3456x2816 .fp8e4m3 := Memref.whole main_arg2
abbrev hbM0_1 : Memref sig .tc .hbm S192x2816 .bf16 := Memref.whole main_v1_0
abbrev hbM0_2 : Memref sig .tc .hbm S192x3456 .fp8e4m3 := Memref.whole main_v1_1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 13 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 13 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6, 7, 8, 9, 10, 11, 12] (by decide) (by decide)]; rfl
/-- The HBM operands the body copies from and leaves unchanged, as references: unscoped, no window's array (`Pipeline.restRefs`). -/
def H0 : Finset (Ref sig .tc) := {main_arg2}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl
/-- The written operands' points-tos at some contents each (`Pipeline.owned`), listed. -/
theorem ownedPts0_eq (c : Dev nD) :
    (Pipeline.owned R0 c : sProp 𝕄) = iprop((∃ f, hbPt0 c hbM0_1 f) ∗ (∃ f, hbPt0 c hbM0_2 f)) := by
  unfold Pipeline.owned; rw [BI.bigSep_eq_bigSepL_of_eq [main_v1_0, main_v1_1] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg2)) ∗ iprop((∃ f, hbPt0 c hbM0_1 f) ∗ (∃ f, hbPt0 c hbM0_2 f))) := by
  rw [Pipeline.ΦDR_eq, scopedRest0_eq, ownSems00_eq, hbmPts0_eq, ownedPts0_eq]; simp only [scM0_0, scM0_1, scM0_2, scM0_3, owns_whole]; try rfl

end Cert.Kernel.Hand

end
-- ==== Proof.BRun.lean ====
/- The kernel's whole body run once, symbolically, as a triple: every copy waited for, every cell back at zero. -/
module

public import proofs.«01_k».proof.Proof.BRuns

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 100000000 in
/-- The body's triple: on whole staging memrefs, the inputs' at their contents, the output's at anything, the scratch
    buffers at anything, the HBM operand it copies from whole at its contents and those it writes at anything, its cells at
    zero, the body runs to the continuation holding the inputs' as they were and everything else at some contents. -/
theorem kernelRun0_A (c : Dev nD) (arg0 : Memref sig .tc .vmem S27x192x2x128 .bf16) (harg0 : arg0.IsWhole) (arg1 : Memref sig .tc .vmem S192x128 .i32) (harg1 : arg1.IsWhole) (arg2 : Memref sig .tc .vmem S1x2816 .f32) (harg2 : arg2.IsWhole) (arg6 : Memref sig .tc .vmem S192 .f32) (harg6 : arg6.IsWhole) (arg7 : Memref sig .tc .vmem S192x3456 .bf16) (harg7 : arg7.IsWhole) (arg8 : Memref sig .tc .vmem S192x3456 .fp8e4m3) (harg8 : arg8.IsWhole)
    (x0 : Vec F S27x192x2x128 .bf16) (x1 : Vec F S192x128 .i32) (x2 : Vec F S1x2816 .f32) (fh0 : HbBuf0 (F := F) c hbM0_0)
    (plan : Transfers.BatchOf (c : Thread nD τ) (SemLoc.dma (sig := sig) 15) 11 (windows := true))
    (plan4 : Transfers.BatchOf (c : Thread nD τ) (SemLoc.dma (sig := sig) 4) 1 (windows := true))
    (plan5 : Transfers.BatchOf (c : Thread nD τ) (SemLoc.dma (sig := sig) 5) 1 (windows := true))
    (plan6 : Transfers.BatchOf (c : Thread nD τ) (SemLoc.dma (sig := sig) 6) 1 (windows := true))
    (plan7 : Transfers.BatchOf (c : Thread nD τ) (SemLoc.dma (sig := sig) 7) 1 (windows := true))
    (plan8 : Transfers.BatchOf (c : Thread nD τ) (SemLoc.dma (sig := sig) 8) 1 (windows := true))
    (plan9 : Transfers.BatchOf (c : Thread nD τ) (SemLoc.dma (sig := sig) 9) 1 (windows := true))
    (plan10 : Transfers.BatchOf (c : Thread nD τ) (SemLoc.dma (sig := sig) 10) 1 (windows := true))
    (plan11 : Transfers.BatchOf (c : Thread nD τ) (SemLoc.dma (sig := sig) 11) 1 (windows := true))
    (plan12 : Transfers.BatchOf (c : Thread nD τ) (SemLoc.dma (sig := sig) 12) 1 (windows := true))
    (plan13 : Transfers.BatchOf (c : Thread nD τ) (SemLoc.dma (sig := sig) 13) 1 (windows := true))
    (plan14 : Transfers.BatchOf (c : Thread nD τ) (SemLoc.dma (sig := sig) 14) 1 (windows := true)) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg6 fullShare d) ∗ (∃ d, owns (c : Thread nD τ) arg7 fullShare d) ∗ (∃ d, owns (c : Thread nD τ) arg8 fullShare d) ∗ (∃ f, hbPt0 (F := F) c scM0_2 f) ∗ (∃ f, hbPt0 (F := F) c scM0_3 f) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ f, hbPt0 (F := F) c hbM0_1 f) ∗ (∃ f, hbPt0 (F := F) c hbM0_2 f) ∗ owes (c : Thread nD τ) 0 W
            ∗ (iprop(owns (c : Thread nD τ) arg0 fullShare x0 ∗ owns (c : Thread nD τ) arg1 fullShare x1 ∗ owns (c : Thread nD τ) arg2 fullShare x2 ∗ (∃ d, owns (c : Thread nD τ) arg6 fullShare d) ∗ (∃ d, owns (c : Thread nD τ) arg7 fullShare d) ∗ (∃ d, owns (c : Thread nD τ) arg8 fullShare d) ∗ (∃ f, hbPt0 (F := F) c scM0_2 f) ∗ (∃ f, hbPt0 (F := F) c scM0_3 f) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ f, hbPt0 (F := F) c hbM0_1 f) ∗ (∃ f, hbPt0 (F := F) c hbM0_2 f) ∗ (∃ W', owes (c : Thread nD τ) 0 W')) -∗ K ⟨⟩))
          ⊢ wp frame (wpE (defs₀ (F := F)) Variants.none c none) Set.univ (cc0_masked_fp8_linear arg0 harg0 arg1 harg1 arg2 harg2 (Memref.whole main_arg2) (Memref.isWhole_whole _) (Memref.whole main_v1_0) (Memref.isWhole_whole _) (Memref.whole main_v1_1) (Memref.isWhole_whole _) arg6 harg6 arg7 harg7 arg8 harg8 (Memref.whole cc0_scratch2) (Memref.isWhole_whole _) (Memref.whole cc0_scratch3) (Memref.isWhole_whole _) cc0_scratch4 cc0_scratch5 cc0_scratch6) K := by
    intro W K
    simp only [cc0_masked_fp8_linear_eq_skeleton]; unfold cc0_masked_fp8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%fs2, HS2⟩, ⟨%fs3, HS3⟩, Hq0, Hq1, Hq2, Hq3, Hq4, Hq5, Hq6, Hq7, Hq8, Hq9, Hq10, Hq11, Hq12, Hh0, ⟨%fw1, Hh1⟩, ⟨%fw2, Hh2⟩, HW, Hk⟩
    obtain rfl := harg0.eq_unread hf0; obtain rfl := harg1.eq_unread hf1; obtain rfl := harg2.eq_unread hf2
    iterate 33 (try sl_exec)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _, _; isplitr; swap; · iexact H3
      ipureintro; rfl
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hh0]; · iexact Hh0
    isplitl [Hh1]; · iexists _; iexact Hh1
    isplitl [Hh2]; · iexists _; iexact Hh2
    iexists _; iexact HW

end Cert.Kernel.Hand

end
-- ==== Proof.BFrame.lean ====
/- The frame certificate of `Kernel`: the proof data, the body obligation from the body's triple, the run and the frame.
   What the kernel writes is named nowhere. -/
module

public import proofs.«01_k».proof.Proof.BRun
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (3): nothing reads what the kernel leaves in them, so nothing
    of it is named (Lib/Pipeline/Dat.lean `Dat.toRForget`). -/
def forgets0 : Fin 4 → Bool := fun w => w.val == 3

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦDR osem0 spec0 H0 R0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

/-- A whole scratch memref is held as its buffer. -/
theorem owns_scM0_2 (c : Dev nD) (d : HbBuf0 (F := F) c scM0_2) :
    (owns (c : Thread nD τ) scM0_2 fullShare d : sProp 𝕄) = hbPt0 c scM0_2 d := owns_whole _ _ _ _
/-- A whole scratch memref is held as its buffer. -/
theorem owns_scM0_3 (c : Dev nD) (d : HbBuf0 (F := F) c scM0_3) :
    (owns (c : Thread nD τ) scM0_3 fullShare d : sProp 𝕄) = hbPt0 c scM0_3 d := owns_whole _ _ _ _

set_option maxHeartbeats 800000 in
/-- The body at any point: the inputs' memrefs hold their blocks (`before0_W`); so the
    run applies; the invariant (`PhiDR0_eq`) hands the body its scratch, the register, its DMA cells at zero, the HBM operands it reads and those it writes, and takes them back — the written ones at whatever the point left, the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    after0_0, after0_1, after0_2]
  rw [show (dats m 0 c).Φ t.castSucc = Pipeline.ΦDR osem0 spec0 H0 R0 (V m) c from rfl, PhiDR0_eq]
  simp only [owns_scM0_2, owns_scM0_3]
  unfold Dat.owesAt Pipeline.owesWithin
  rw [show (dats m 0 c).owed t.castSucc = 0 from rfl, show (dats m 0 c).owed t.succ = 0 from rfl]
  iintro ⟨⟨⟨HS0, HS1, HS2, HS3⟩, Hg, ⟨Hq0, Hq1, Hq2, Hq3, Hq4, Hq5, Hq6, Hq7, Hq8, Hq9, Hq10, Hq11, Hq12⟩, Hh0, ⟨Hh1, Hh2⟩⟩, ⟨%W, -, HW⟩, ⟨%d0, H0⟩, ⟨%d1, H1⟩, ⟨%d2, H2⟩, ⟨%d3, H3⟩⟩
  iapply ((kernelRun0_A c _ _ _ _ _ _ _ _ _ _ _ _ (iblk m c 0 t) (iblk m c 1 t) (iblk m c 2 t) (V m c main_arg2) trivial trivial trivial trivial trivial trivial trivial trivial trivial trivial trivial trivial) W _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hh0]; · iexact Hh0
  isplitl [Hh1]; · iexact Hh1
  isplitl [Hh2]; · iexact Hh2
  isplitl [HW]; · iexact HW
  iintro ⟨H0, H1, H2, H3, HS0, HS1, HS2, HS3, Hq0, Hq1, Hq2, Hq3, Hq4, Hq5, Hq6, Hq7, Hq8, Hq9, Hq10, Hq11, Hq12, Hh0, Hh1, Hh2, ⟨%W', HW'⟩⟩
  isplitl [HS0 HS1 HS2 HS3 Hg Hq0 Hq1 Hq2 Hq3 Hq4 Hq5 Hq6 Hq7 Hq8 Hq9 Hq10 Hq11 Hq12 Hh0 Hh1 Hh2]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1 Hq2 Hq3 Hq4 Hq5 Hq6 Hq7 Hq8 Hq9 Hq10 Hq11 Hq12]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      iexact Hq12
    isplitl [Hh0]
    · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dmaR_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) R0 (V m)) r ∧ r.2.sem = fun _ => 0) :=
  Pipeline.θ_run_frame_dmaR_forget (Q' := _) cfgs (dats m) (0 : Fin 1) launch0 osem0 defs₀ Variants.none forgets0 ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (window 3) (Lib/Pipeline/Frame.lean `RDat.FramePostR` over the proof data with those windows
    forgotten, Dat.lean `Dat.toRForget`), and every other unscoped buffer outside `R0` at its region-entry contents. -/
theorem run_main : θ_run defs (onTc (τ := τ) (main (F := F))) (s₀ m ρ) (Pipeline.RDat.FramePostR (cfgs 0) (fun c => (dats m 0 c).toRForget forgets0) R0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`:
    `Cert.Proof.claim`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.IRuns.lean ====
/- What the hand-written frame and value certificate of `KernelIdeal` shares: @main up to the region, the windows'
   blocks at a point, the staging and scratch memrefs, the semaphores the body uses itself, and the invariant listed. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v1_0, main_v1_1}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c)⟩) h

/-! ## The kernel body on any staging memrefs: a subtype the run finds -/

/-- One staging buffer of output window 3, through which its contents are stated (`View.read_writes_of_cover`: the
    choice does not matter). -/
abbrev VO0_3 : View sig .tc .vmem S192 .f32 := (Memref.whole cc0_stg3_0 : Memref sig .tc .vmem S192 .f32).view
/-- Each window's current staging memref at point `t`, spelled as the pipeline passes it (`bodyAt0`), and its wholeness. -/
abbrev ms0_0 (t : Fin cfg0.N) : Memref sig .tc .vmem S27x192x2x128 .bf16 := win0_0.stage (cfg0.slots t 0)
abbrev hs0_0 (t : Fin cfg0.N) : (ms0_0 t).IsWhole := hstage0_0 0
abbrev ms0_1 (t : Fin cfg0.N) : Memref sig .tc .vmem S192x128 .i32 := win0_1.stage (cfg0.slots t 1)
abbrev hs0_1 (t : Fin cfg0.N) : (ms0_1 t).IsWhole := hstage0_1 0
abbrev ms0_2 (t : Fin cfg0.N) : Memref sig .tc .vmem S1x2816 .f32 := win0_2.stage (cfg0.slots t 2)
abbrev hs0_2 (t : Fin cfg0.N) : (ms0_2 t).IsWhole := hstage0_2 0
abbrev ms0_3 (t : Fin cfg0.N) : Memref sig .tc .vmem S192 .f32 := win0_3.stage (cfg0.slots t 3)
abbrev hs0_3 (t : Fin cfg0.N) : (ms0_3 t).IsWhole := hstage0_3 0
/-- The scratch operands: whole scoped buffers of the kernel's own, passed beside the windows. -/
abbrev scM0_0 : Memref sig .tc .vmem S192x3456 .bf16 := Memref.whole cc0_scratch0
abbrev scM0_1 : Memref sig .tc .vmem S192x3456 .fp8e4m3 := Memref.whole cc0_scratch1
abbrev scM0_2 : Memref sig .tc .vmem S3456x2816 .fp8e4m3 := Memref.whole cc0_scratch2
abbrev scM0_3 : Memref sig .tc .vmem S192x2816 .bf16 := Memref.whole cc0_scratch3
/-- The operands left in HBM that the body copies into scratch itself, whole. -/
abbrev hbM0_0 : Memref sig .tc .hbm S3456x2816 .fp8e4m3 := Memref.whole main_arg2
abbrev hbM0_1 : Memref sig .tc .hbm S192x2816 .bf16 := Memref.whole main_v1_0
abbrev hbM0_2 : Memref sig .tc .hbm S192x3456 .fp8e4m3 := Memref.whole main_v1_1
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 13 → SemLoc sig := fun j => (![SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16] : Fin 13 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) := by
  rw [Pipeline.ownSems0_eq_of_list c osem0 [0, 1, 2, 3, 4, 5, 6, 7, 8, 9, 10, 11, 12] (by decide) (by decide)]; rfl
/-- The HBM operands the body copies from and leaves unchanged, as references: unscoped, no window's array (`Pipeline.restRefs`). -/
def H0 : Finset (Ref sig .tc) := {main_arg2}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_arg2)) := by
  rw [BI.bigSep_eq_bigSepL_of_eq [main_arg2] (by decide) (by decide)]; rfl
/-- The written operands' points-tos at some contents each (`Pipeline.owned`), listed. -/
theorem ownedPts0_eq (c : Dev nD) :
    (Pipeline.owned R0 c : sProp 𝕄) = iprop((∃ f, hbPt0 c hbM0_1 f) ∗ (∃ f, hbPt0 c hbM0_2 f)) := by
  unfold Pipeline.owned; rw [BI.bigSep_eq_bigSepL_of_eq [main_v1_0, main_v1_1] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg2)) ∗ iprop((∃ f, hbPt0 c hbM0_1 f) ∗ (∃ f, hbPt0 c hbM0_2 f))) := by
  rw [Pipeline.ΦDR_eq, scopedRest0_eq, ownSems00_eq, hbmPts0_eq, ownedPts0_eq]; simp only [scM0_0, scM0_1, scM0_2, scM0_3, owns_whole]; try rfl

end Cert.KernelIdeal.Hand

end
-- ==== Proof.IRun.lean ====
/- The kernel's whole body run once, symbolically: what it leaves in the row scales' staging memref (as pieces), in the
   product's array and in the codes' array is the witness the run finds. -/
module

public import proofs.«01_k».proof.Proof.IRuns

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 100000000 in
/-- What the body's stores leave in each output's staging memref, as pieces (last first), WITH the
    proof that on whole staging memrefs — the inputs' at their contents, the other outputs' at
    anything, the scratch buffers at anything, the HBM operands it copies from whole at their launch contents `fh·`, those it writes back into whole at some contents, its DMA cells at zero and the core's `owes`, the body runs to the continuation holding the inputs' as they were,
    the scratch at some contents, the HBM operands it copies from and the cells as they were, those it writes into at some contents (each transfer waited for within the point), the waits recorded in `owes`, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S27x192x2x128 .bf16) (harg0 : arg0.IsWhole) (arg1 : Memref sig .tc .vmem S192x128 .i32) (harg1 : arg1.IsWhole) (arg2 : Memref sig .tc .vmem S1x2816 .f32) (harg2 : arg2.IsWhole) (arg6 : Memref sig .tc .vmem S192 .f32) (harg6 : arg6.IsWhole) (arg7 : Memref sig .tc .vmem S192x3456 .bf16) (harg7 : arg7.IsWhole) (arg8 : Memref sig .tc .vmem S192x3456 .fp8e4m3) (harg8 : arg8.IsWhole)
    (x0 : Vec F S27x192x2x128 .bf16) (x1 : Vec F S192x128 .i32) (x2 : Vec F S1x2816 .f32) (fh0 : HbBuf0 (F := F) c hbM0_0) (fy : HbBuf0 (F := F) c hbM0_1) (fc : HbBuf0 (F := F) c hbM0_2)
    (plan : Transfers.BatchOf (c : Thread nD τ) (SemLoc.dma (sig := sig) 15) 11 (windows := true))
    (plan4 : Transfers.BatchOf (c : Thread nD τ) (SemLoc.dma (sig := sig) 4) 1 (windows := true))
    (plan5 : Transfers.BatchOf (c : Thread nD τ) (SemLoc.dma (sig := sig) 5) 1 (windows := true))
    (plan6 : Transfers.BatchOf (c : Thread nD τ) (SemLoc.dma (sig := sig) 6) 1 (windows := true))
    (plan7 : Transfers.BatchOf (c : Thread nD τ) (SemLoc.dma (sig := sig) 7) 1 (windows := true))
    (plan8 : Transfers.BatchOf (c : Thread nD τ) (SemLoc.dma (sig := sig) 8) 1 (windows := true))
    (plan9 : Transfers.BatchOf (c : Thread nD τ) (SemLoc.dma (sig := sig) 9) 1 (windows := true))
    (plan10 : Transfers.BatchOf (c : Thread nD τ) (SemLoc.dma (sig := sig) 10) 1 (windows := true))
    (plan11 : Transfers.BatchOf (c : Thread nD τ) (SemLoc.dma (sig := sig) 11) 1 (windows := true))
    (plan12 : Transfers.BatchOf (c : Thread nD τ) (SemLoc.dma (sig := sig) 12) 1 (windows := true))
    (plan13 : Transfers.BatchOf (c : Thread nD τ) (SemLoc.dma (sig := sig) 13) 1 (windows := true))
    (plan14 : Transfers.BatchOf (c : Thread nD τ) (SemLoc.dma (sig := sig) 14) 1 (windows := true)) :
    { p : List (View.Piece (Elt F) S192 .f32) × (HbBuf0 (F := F) c scM0_3 → HbBuf0 (F := F) c hbM0_1) × (arg8.view.ty.Contents (Elt F) → HbBuf0 (F := F) c hbM0_2) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg6 fullShare d) ∗ (∃ d, owns (c : Thread nD τ) arg7 fullShare d) ∗ (∃ d, owns (c : Thread nD τ) arg8 fullShare d) ∗ (∃ f, hbPt0 (F := F) c scM0_2 f) ∗ (∃ f, hbPt0 (F := F) c scM0_3 f) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fy ∗ hbPt0 c hbM0_2 fc ∗ owes (c : Thread nD τ) 0 W
            ∗ (iprop(owns (c : Thread nD τ) arg0 fullShare x0 ∗ owns (c : Thread nD τ) arg1 fullShare x1 ∗ owns (c : Thread nD τ) arg2 fullShare x2 ∗ (∃ f, arg6.view.loc (c : Thread nD τ) ↦[arg6.view.set]{fullShare} arg6.view.writes (Elt F) f p.1) ∗ (∃ d, owns (c : Thread nD τ) arg7 fullShare d) ∗ (∃ d, owns (c : Thread nD τ) arg8 fullShare d) ∗ (∃ f, hbPt0 (F := F) c scM0_2 f) ∗ (∃ f, hbPt0 (F := F) c scM0_3 f) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ g, hbPt0 c hbM0_1 (p.2.1 g)) ∗ (∃ g, hbPt0 c hbM0_2 (p.2.2 g)) ∗ (∃ W', owes (c : Thread nD τ) 0 W')) -∗ K ⟨⟩))
          ⊢ wp frame (wpE (defs₀ (F := F)) Variants.none c none) Set.univ (cc0_masked_fp8_linear arg0 harg0 arg1 harg1 arg2 harg2 (Memref.whole main_arg2) (Memref.isWhole_whole _) (Memref.whole main_v1_0) (Memref.isWhole_whole _) (Memref.whole main_v1_1) (Memref.isWhole_whole _) arg6 harg6 arg7 harg7 arg8 harg8 (Memref.whole cc0_scratch2) (Memref.isWhole_whole _) (Memref.whole cc0_scratch3) (Memref.isWhole_whole _) cc0_scratch4 cc0_scratch5 cc0_scratch6) K } := by
  refine ⟨⟨?_, ?_, ?_⟩, fun W K => ?run⟩
  case run =>
    simp only [cc0_masked_fp8_linear_eq_skeleton]; unfold cc0_masked_fp8_linear_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%fs2, HS2⟩, ⟨%fs3, HS3⟩, Hq0, Hq1, Hq2, Hq3, Hq4, Hq5, Hq6, Hq7, Hq8, Hq9, Hq10, Hq11, Hq12, Hh0, Hh1, Hh2, HW, Hk⟩
    obtain rfl := harg0.eq_unread hf0; obtain rfl := harg1.eq_unread hf1; obtain rfl := harg2.eq_unread hf2
    iterate 33 (try sl_exec)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]; · iexists _; iexact H3
    isplitl [HS0]
    · iexists _, _; isplitr; swap; · iexact HS0
      ipureintro; rfl
    isplitl [HS1]
    · iexists _, _; isplitr; swap; · iexact HS1
      ipureintro; rfl
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hh0]; · iexact Hh0
    isplitl [Hh1]; · iexists fs3; iexact Hh1
    isplitl [Hh2]; · iexists fs1; iexact Hh2
    iexists _; iexact HW

end Cert.KernelIdeal.Hand

end
-- ==== Proof.IForm.lean ====
/- The kernel's values in plain form: one function of the group of rows and of the column chunk for each thing the body
   computes, and the lists of pieces its stores leave, by recursion over groups and chunks. -/
module

public import proofs.«01_k».proof.Proof.IRun

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- Chunk `c` of the rows of group `g` lies inside the gathered array. -/
theorem inX (g c : ℕ) : ∀ a, (![c % 27, 32 * (g % 6), 0, 0] : Fin 4 → ℕ) a + S1x32x2x128.size a ≤ S27x192x2x128.size a := by
  intro a
  have h1 := Nat.mod_lt c (show 27 > 0 by decide)
  have h2 := Nat.mod_lt g (show 6 > 0 by decide)
  fin_cases a <;> simp [S1x32x2x128, S27x192x2x128] <;> omega

/-- Block `(g, c)` of 32 rows and 128 columns lies inside the staged matrix. -/
theorem inM (g c : ℕ) : ∀ a, (![32 * (g % 6), 128 * (c % 27)] : Fin 2 → ℕ) a + S32x128.size a ≤ S192x3456.size a := by
  intro a
  have h1 := Nat.mod_lt c (show 27 > 0 by decide)
  have h2 := Nat.mod_lt g (show 6 > 0 by decide)
  fin_cases a <;> simp [S32x128, S192x3456] <;> omega

/-- The rows of group `g` of the choice words. -/
theorem inS (g : ℕ) : S192x128.Slices ![32 * (g % 6), 0] S32x128 := by
  refine ⟨rfl, ?_⟩
  have h2 := Nat.mod_lt g (show 6 > 0 by decide)
  intro a
  fin_cases a <;> simp [S32x128, S192x128] <;> omega

/-- Block `(g, c)` of the staged matrix. -/
abbrev blk (g c : ℕ) : Rect S192x3456 := Rect.unit ![32 * (g % 6), 128 * (c % 27)] S32x128.size (inM g c)

/-- The two candidate rows of chunk `c`, group `g`, as the body loads them. -/
def rawOf (X : Vec F S27x192x2x128 .bf16) (g c : ℕ) : Vec F S1x32x2x128 .bf16 :=
  fun j => X ((Rect.unit (s := S27x192x2x128) ![c % 27, 32 * (g % 6), 0, 0] S1x32x2x128.size (inX g c)).emb j)

variable (raw : ℕ → ℕ → Vec F S1x32x2x128 .bf16) (sh : Vec F S192x128 .i32)

/-- The chosen row of each pair: chunk `c` of group `g`. -/
def sel (g c : ℕ) : FVec F S32x128 .bf16 :=
  select (cmpi .ne (extractStridedSlice S32x128 ![32 * (g % 6), 0] sh (inS g)) (broadcast S32x128 0#32))
    (shapeCast S32x128 (shapeCast S1x32x128 (rowsOfParity 1 S1x32x1x128 (raw g c) bitcasts_S1x32x2x128_w16_S1x32x1x128_w32)
      shapeCasts_S1x32x1x128_S1x32x128) shapeCasts_S1x32x128_S32x128)
    (shapeCast S32x128 (shapeCast S1x32x128 (rowsOfParity 0 S1x32x1x128 (raw g c) bitcasts_S1x32x2x128_w16_S1x32x1x128_w32)
      shapeCasts_S1x32x1x128_S1x32x128) shapeCasts_S1x32x128_S32x128)

/-- The running elementwise maximum of the magnitudes over the first `n` chunks of group `g`. -/
def amaxs (g n : ℕ) : FVec F S32x128 .bf16 :=
  Nat.rec (broadcast S32x128 (Scalar.ofBits .bf16 0#16)) (fun c a => maximumf a (absf (sel raw sh g c))) n

/-- The largest magnitude of each row of group `g`, over 448. -/
def quot (g : ℕ) : FVec F S32x1 .f32 :=
  mulf (shapeCast S32x1 (multiReduction .maximumf [1] S32 (extf .f32 (amaxs raw sh g 27) bitsLt_bf16_f32) 0xFF800000#32
    reduces_S32x128_S32 (.inl rfl) rfl) shapeCasts_S32_S32x1) (broadcast S32x1 (Scalar.ofBits .f32 0x3B124925#32))

/-- The same, once per power of two it is compared with. -/
def quots (g : ℕ) : FVec F S32x255 .f32 := broadcastTo S32x255 (quot raw sh g) broadcasts_S32x1_S32x255

/-- The row scales of group `g`. -/
def scl (g : ℕ) : FVec F S32x1 .f32 := k0_pay114 k0_pay111 (quots raw sh g)

variable (V : View sig .tc .vmem S192x3456 .bf16)

/-- First pass over group `g`: the chosen rows stored, chunk by chunk, over the pieces `L`. -/
def pass1 (g : ℕ) (L : List (View.Piece (Elt F) S192x3456 .bf16)) (n : ℕ) : List (View.Piece (Elt F) S192x3456 .bf16) :=
  Nat.rec L (fun c L' => ⟨blk g c, shapeCast S32x128 (sel raw sh g c) shapeCasts_S32x128_S32x128⟩ :: L') n

/-- Second pass over group `g`: each chunk read back, quantised, and the codes stored back as wide numbers. -/
def pass2 (g : ℕ) (L : List (View.Piece (Elt F) S192x3456 .bf16)) (n : ℕ) : List (View.Piece (Elt F) S192x3456 .bf16) :=
  Nat.rec L (fun c L' => ⟨blk g c, k0_pay118 k0_pay111 (quots raw sh g) (V.readCov L' (blk g c).toLoadRect)⟩ :: L') n

/-- All pieces the staged matrix holds after the first `g` groups. -/
def staged (g : ℕ) : List (View.Piece (Elt F) S192x3456 .bf16) :=
  Nat.rec [] (fun g L => pass2 raw sh V g (pass1 raw sh g L 27) 27) g

/-- The codes stored while going over group `g`, over the pieces `L`. -/
def codes1 (g : ℕ) (L : List (View.Piece (Elt F) S192x3456 .fp8e4m3)) (n : ℕ) : List (View.Piece (Elt F) S192x3456 .fp8e4m3) :=
  Nat.rec L (fun c L' => ⟨blk g c, k0_pay117 k0_pay111 (quots raw sh g)
    (V.readCov (pass2 raw sh V g (pass1 raw sh g (staged raw sh V g) 27) c) (blk g c).toLoadRect)⟩ :: L') n

/-- All pieces of codes after the first `g` groups. -/
def codesL (g : ℕ) : List (View.Piece (Elt F) S192x3456 .fp8e4m3) :=
  Nat.rec [] (fun g L => codes1 raw sh V g L 27) g

/-- The scales of all 192 rows, as the body concatenates them. -/
def scls : FVec F S192x1 .f32 :=
  k0_pay1271 (scl raw sh 0) (scl raw sh 1) (scl raw sh 2) (scl raw sh 3) (scl raw sh 4) (scl raw sh 5)

/-- Slab `n` of 256 columns lies inside the weights. -/
theorem inW (n : ℕ) : ∀ a, (![0, 256 * (n % 11)] : Fin 2 → ℕ) a + S3456x256.size a ≤ S3456x2816.size a := by
  intro a
  have h1 := Nat.mod_lt n (show 11 > 0 by decide)
  fin_cases a <;> simp [S3456x256, S3456x2816] <;> omega

/-- Slab `n` of 256 columns lies inside the product. -/
theorem inY (n : ℕ) : ∀ a, (![0, 256 * (n % 11)] : Fin 2 → ℕ) a + S192x256.size a ≤ S192x2816.size a := by
  intro a
  have h1 := Nat.mod_lt n (show 11 > 0 by decide)
  fin_cases a <;> simp [S192x256, S192x2816] <;> omega

/-- Slab `n` of 256 columns lies inside the column scales. -/
theorem inC (n : ℕ) : ∀ a, (![0, 256 * (n % 11)] : Fin 2 → ℕ) a + S1x256.size a ≤ S1x2816.size a := by
  intro a
  have h1 := Nat.mod_lt n (show 11 > 0 by decide)
  fin_cases a <;> simp [S1x256, S1x2816] <;> omega

/-- Slab `n` of the weights. -/
abbrev wRect (n : ℕ) : Rect S3456x2816 := Rect.unit ![0, 256 * (n % 11)] S3456x256.size (inW n)
/-- Slab `n` of the product. -/
abbrev yRect (n : ℕ) : Rect S192x2816 := Rect.unit ![0, 256 * (n % 11)] S192x256.size (inY n)
/-- Slab `n` of the column scales. -/
abbrev cRect (n : ℕ) : Rect S1x2816 := Rect.unit ![0, 256 * (n % 11)] S1x256.size (inC n)

/-- The slabs of the weights copied in, last first. -/
def wPieces (wsl : ℕ → Vec F S3456x256 .fp8e4m3) (n : ℕ) : List (View.Piece (Elt F) S3456x2816 .fp8e4m3) :=
  Nat.rec [] (fun k L => ⟨wRect k, wsl k⟩ :: L) n

/-- Slab `n` of the product, from the staged matrix `X`, the weights `wv` and the column scales `cs` of the slab. -/
def ySlab (X : Vec F S192x3456 .bf16) (wv : ℕ → Vec F S3456x256 .fp8e4m3) (cs : ℕ → Vec F S1x256 .f32) (n : ℕ) :
    FVec F S192x256 .bf16 := k0_pay1289 (scls raw sh) X (k0_pay1288 (wv n)) (cs n)

/-- The slabs of a product, last first. -/
def yPieces (ysl : ℕ → Vec F S192x256 .bf16) (n : ℕ) : List (View.Piece (Elt F) S192x2816 .bf16) :=
  Nat.rec [] (fun k L => ⟨yRect k, ysl k⟩ :: L) n

end Cert.KernelIdeal.Hand

end

namespace Cert.KernelIdeal.Hand

open Cert.KernelIdeal.Gen
open Idealize.ShloMosaic Idealize.ShloMosaic.TcCoe Idealize.ShloMosaic.Tactic

section
variable {F : FTy → Type} [FloatOps F] (c : Dev nD)
  (arg0 : Memref sig .tc .vmem S27x192x2x128 .bf16) (harg0 : arg0.IsWhole)
  (arg1 : Memref sig .tc .vmem S192x128 .i32) (harg1 : arg1.IsWhole)
  (arg7 : Memref sig .tc .vmem S192x3456 .bf16)
  (x0 : Vec F S27x192x2x128 .bf16) (x1 : Vec F S192x128 .i32)

/-- The candidate rows as the run names them. -/
noncomputable def rawRun (g ch : ℕ) : Vec F S1x32x2x128 .bf16 :=
  View.readAt (Elt F) arg0.view (Rect.unit (s := S27x192x2x128) ![ch % 27, 32 * (g % 6), 0, 0] S1x32x2x128.size (inX g ch)).toLoadRect (harg0.unread x0)

/-- The choice words as the run names them. -/
noncomputable def shRun : Vec F S192x128 .i32 :=
  View.readAt (Elt F) arg1.view (Rect.unit (s := S192x128) ![0, 0] S192x128.size inb_S192x128_S192x128_0_0).toLoadRect (harg1.unread x1)

/-- The pieces of codes the run finds are the plain list. -/
theorem run_codes : kernelRun0_A.sl.HS1_162 c arg0 harg0 arg1 harg1 arg7 x0 x1 =
    codesL (rawRun arg0 harg0 x0) (shRun arg1 harg1 x1) arg7.view 6 := by
  sl_kernel_rfl

/-- The pieces of the staged matrix the run finds are the plain list. -/
theorem run_staged : kernelRun0_A.sl.HS0_324 c arg0 harg0 arg1 harg1 arg7 x0 x1 =
    staged (rawRun arg0 harg0 x0) (shRun arg1 harg1 x1) arg7.view 6 := by
  sl_kernel_rfl

/-- The row scales' pieces the run finds. -/
theorem run_scales (arg2 : Memref sig .tc .vmem S1x2816 .f32) (harg2 : arg2.IsWhole) (arg6 : Memref sig .tc .vmem S192 .f32) (harg6 : arg6.IsWhole) (harg7 : arg7.IsWhole) (arg8 : Memref sig .tc .vmem S192x3456 .fp8e4m3) (harg8 : arg8.IsWhole) (x2 : Vec F S1x2816 .f32) (fh0 : HbBuf0 (F := F) c hbM0_0) (fy : HbBuf0 (F := F) c hbM0_1) (fc : HbBuf0 (F := F) c hbM0_2) (q q4 q5 q6 q7 q8 q9 q10 q11 q12 q13 q14) :
    (kernelRun0_A c arg0 harg0 arg1 harg1 arg2 harg2 arg6 harg6 arg7 harg7 arg8 harg8 x0 x1 x2 fh0 fy fc q q4 q5 q6 q7 q8 q9 q10 q11 q12 q13 q14).1.1
      = [⟨Rect.unit ![0] S192.size inb_S192_S192_0, shapeCast S192 (scls (rawRun arg0 harg0 x0) (shRun arg1 harg1 x1)) shapeCasts_S192x1_S192⟩] := by
  sl_kernel_rfl

/-- The codes' array after the run. -/
theorem run_codesOut (arg2 : Memref sig .tc .vmem S1x2816 .f32) (harg2 : arg2.IsWhole) (arg6 : Memref sig .tc .vmem S192 .f32) (harg6 : arg6.IsWhole) (harg7 : arg7.IsWhole) (arg8 : Memref sig .tc .vmem S192x3456 .fp8e4m3) (harg8 : arg8.IsWhole) (x2 : Vec F S1x2816 .f32) (fh0 : HbBuf0 (F := F) c hbM0_0) (fy : HbBuf0 (F := F) c hbM0_1) (fc : HbBuf0 (F := F) c hbM0_2) (q q4 q5 q6 q7 q8 q9 q10 q11 q12 q13 q14) (f) :
    (kernelRun0_A c arg0 harg0 arg1 harg1 arg2 harg2 arg6 harg6 arg7 harg7 arg8 harg8 x0 x1 x2 fh0 fy fc q q4 q5 q6 q7 q8 q9 q10 q11 q12 q13 q14).1.2.2 f
      = View.write (Elt F) (Memref.whole main_v1_1).view fc (View.read (Elt F) arg8.view (arg8.view.writes (Elt F) f
          (codesL (rawRun arg0 harg0 x0) (shRun arg1 harg1 x1) arg7.view 6))) Finset.univ := by
  sl_kernel_rfl

/-- The weights' slabs as the run names them. -/
noncomputable def wRun (fh0 : HbBuf0 (F := F) c hbM0_0) (n : ℕ) : Vec F S3456x256 .fp8e4m3 :=
  scM0_2.view.readCov (wPieces (fun k => View.read (Elt F) ((Memref.whole main_arg2).slice (wRect k) (fun _ => rfl)).view fh0) 11)
    (wRect n).toLoadRect

/-- The slabs of the product the run computes. -/
noncomputable def yRun (arg2 : Memref sig .tc .vmem S1x2816 .f32) (harg2 : arg2.IsWhole) (x2 : Vec F S1x2816 .f32) (fh0 : HbBuf0 (F := F) c hbM0_0) (n : ℕ) :
    Vec F S192x256 .bf16 :=
  ySlab (rawRun arg0 harg0 x0) (shRun arg1 harg1 x1)
    (arg7.view.readCov (staged (rawRun arg0 harg0 x0) (shRun arg1 harg1 x1) arg7.view 6)
      (Rect.unit (s := S192x3456) ![0, 0] S192x3456.size inb_S192x3456_S192x3456_0_0).toLoadRect)
    (wRun c fh0) (fun n => View.readAt (Elt F) arg2.view (cRect n).toLoadRect (harg2.unread x2)) n

/-- The product's array after the run. -/
theorem run_yOut (arg2 : Memref sig .tc .vmem S1x2816 .f32) (harg2 : arg2.IsWhole) (arg6 : Memref sig .tc .vmem S192 .f32) (harg6 : arg6.IsWhole) (harg7 : arg7.IsWhole) (arg8 : Memref sig .tc .vmem S192x3456 .fp8e4m3) (harg8 : arg8.IsWhole) (x2 : Vec F S1x2816 .f32) (fh0 : HbBuf0 (F := F) c hbM0_0) (fy : HbBuf0 (F := F) c hbM0_1) (fc : HbBuf0 (F := F) c hbM0_2) (q q4 q5 q6 q7 q8 q9 q10 q11 q12 q13 q14) (f) :
    (kernelRun0_A c arg0 harg0 arg1 harg1 arg2 harg2 arg6 harg6 arg7 harg7 arg8 harg8 x0 x1 x2 fh0 fy fc q q4 q5 q6 q7 q8 q9 q10 q11 q12 q13 q14).1.2.1 f
      = hbM0_1.view.writes (Elt F) fy (yPieces (fun k => View.read (Elt F) ((Memref.whole cc0_scratch3).slice (yRect k) (fun _ => rfl)).view
          (scM0_3.view.writes (Elt F) f (yPieces (yRun c arg0 harg0 arg1 harg1 arg7 x0 x1 arg2 harg2 x2 fh0) (k + 1)))) 11) := by
  sl_kernel_rfl

end
end Cert.KernelIdeal.Hand
-- ==== Proof.IRead.lean ====
/- Reading the run's piece lists at an index: the chunk and group of the index pick the piece. -/
module

public import proofs.«01_k».proof.Proof.IForm
public import Idealize.ShloMosaic.Lib.Pipeline.ReadBack
public import Idealize.ShloMosaic.Lib.WritesUnit

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]
variable (raw : ℕ → ℕ → Vec F S1x32x2x128 .bf16) (sh : Vec F S192x128 .i32) (V : View sig .tc .vmem S192x3456 .bf16)
variable {κ : Kind} {sp : Space} {e : EltTy} (v : View sig κ sp S192x3456 e) (f : v.ty.Contents (Elt F))

/-- The place of an index inside its block of 32 rows and 128 columns. -/
def loc (y : S192x3456.Idx) : S32x128.Idx := fun a =>
  match a with
  | ⟨0, _⟩ => ⟨(y 0).val % 32, Nat.mod_lt _ (by decide)⟩
  | ⟨1, _⟩ => ⟨(y 1).val % 128, Nat.mod_lt _ (by decide)⟩

/-- An index of block `(g, c)` reads the newest piece when that is block `(g, c)`. -/
theorem read_blk (g c : ℕ) (hg : g < 6) (hc : c < 27) (w : S32x128.Idx → Elt F e) (L) (y : S192x3456.Idx)
    (h0 : (y 0).val / 32 = g) (h1 : (y 1).val / 128 = c) :
    v.read (Elt F) (v.writes (Elt F) f (⟨blk g c, w⟩ :: L)) y = w (loc y) := by
  refine View.read_writes_cons_unit_of_mem v f (inM g c) w L y (loc y) (off' := ![32 * g, 128 * c]) ?_ ?_
  · rw [Nat.mod_eq_of_lt hg, Nat.mod_eq_of_lt hc]
  · intro a
    fin_cases a
    · show (y 0).val = 32 * g + (y 0).val % 32
      omega
    · show (y 1).val = 128 * c + (y 1).val % 128
      omega

/-- An index of another block reads what the earlier pieces left. -/
theorem read_blk_ne (g c : ℕ) (hg : g < 6) (hc : c < 27) (w : S32x128.Idx → Elt F e) (L) (y : S192x3456.Idx)
    (h : (y 0).val / 32 ≠ g ∨ (y 1).val / 128 ≠ c) :
    v.read (Elt F) (v.writes (Elt F) f (⟨blk g c, w⟩ :: L)) y = v.read (Elt F) (v.writes (Elt F) f L) y := by
  rcases h with h | h
  · refine View.read_writes_cons_unit_of_not_mem v f (inM g c) w L y rfl 0 ?_
    show (y 0).val < 32 * (g % 6) ∨ 32 * (g % 6) + 32 ≤ (y 0).val
    rw [Nat.mod_eq_of_lt hg]; omega
  · refine View.read_writes_cons_unit_of_not_mem v f (inM g c) w L y rfl 1 ?_
    show (y 1).val < 128 * (c % 27) ∨ 128 * (c % 27) + 128 ≤ (y 1).val
    rw [Nat.mod_eq_of_lt hc]; omega

/-- A list of blocks `(g, 0), (g, 1), …, (g, n-1)` stored one after the other over the pieces `L`. -/
theorem read_row (g : ℕ) (hg : g < 6) (L : List (View.Piece (Elt F) S192x3456 e))
    (w : ℕ → List (View.Piece (Elt F) S192x3456 e) → S32x128.Idx → Elt F e) (y : S192x3456.Idx) (n : ℕ) (hn : n ≤ 27) :
    v.read (Elt F) (v.writes (Elt F) f (Nat.rec L (fun c L' => ⟨blk g c, w c L'⟩ :: L') n)) y
      = if (y 0).val / 32 = g ∧ (y 1).val / 128 < n then
          w ((y 1).val / 128) (Nat.rec L (fun c L' => ⟨blk g c, w c L'⟩ :: L') ((y 1).val / 128)) (loc y)
        else v.read (Elt F) (v.writes (Elt F) f L) y := by
  induction n with
  | zero => simp
  | succ n ih =>
    by_cases h : (y 0).val / 32 = g ∧ (y 1).val / 128 = n
    · rw [if_pos ⟨h.1, by omega⟩]
      refine (read_blk v f g n hg (by omega) _ _ y h.1 h.2).trans ?_
      rw [h.2]
    · refine (read_blk_ne v f g n hg (by omega) _ _ y (by tauto)).trans ?_
      rw [ih (by omega)]
      by_cases h2 : (y 0).val / 32 = g ∧ (y 1).val / 128 < n
      · rw [if_pos h2, if_pos ⟨h2.1, by omega⟩]
      · rw [if_neg h2, if_neg (by omega)]

/-- A chunk read back in the second pass is what the first pass stored there. -/
theorem readCov_pass (g c : ℕ) (hg : g < 6) (hc : c < 27) (L) :
    V.readCov (pass2 raw sh V g (pass1 raw sh g L 27) c) (blk g c).toLoadRect
      = shapeCast S32x128 (sel raw sh g c) shapeCasts_S32x128_S32x128 := by
  funext j
  have e0 : (((blk g c).emb j) 0).val = 32 * g + (j 0).val := by
    show 32 * (g % 6) + 1 * (j 0).val = _
    rw [Nat.mod_eq_of_lt hg]; omega
  have e1 : (((blk g c).emb j) 1).val = 128 * c + (j 1).val := by
    show 128 * (c % 27) + 1 * (j 1).val = _
    rw [Nat.mod_eq_of_lt hc]; omega
  have j0 : (j 0).val < 32 := (j 0).isLt
  have j1 : (j 1).val < 128 := (j 1).isLt
  have d0 : (((blk g c).emb j) 0).val / 32 = g := by omega
  have d1 : (((blk g c).emb j) 1).val / 128 = c := by omega
  have hl : loc ((blk g c).emb j) = j := by
    funext a
    fin_cases a
    · exact Fin.ext (by show (((blk g c).emb j) 0).val % 32 = (j 0).val; omega)
    · exact Fin.ext (by show (((blk g c).emb j) 1).val % 128 = (j 1).val; omega)
  refine (read_row V V.junk g hg (pass1 raw sh g L 27)
    (fun c L' => k0_pay118 k0_pay111 (quots raw sh g) (V.readCov L' (blk g c).toLoadRect)) ((blk g c).emb j) c (by omega)).trans ?_
  rw [if_neg (by omega)]
  refine (read_row V V.junk g hg L (fun c _ => shapeCast S32x128 (sel raw sh g c) shapeCasts_S32x128_S32x128)
    ((blk g c).emb j) 27 le_rfl).trans ?_
  rw [if_pos ⟨d0, by omega⟩, hl, d1]

/-- The code at an index. -/
def codesVal (y : S192x3456.Idx) : Elt F .fp8e4m3 :=
  k0_pay117 k0_pay111 (quots raw sh ((y 0).val / 32))
    (shapeCast S32x128 (sel raw sh ((y 0).val / 32) ((y 1).val / 128)) shapeCasts_S32x128_S32x128) (loc y)

/-- The staged number at an index: the code, widened. -/
def stagedVal (y : S192x3456.Idx) : Elt F .bf16 :=
  k0_pay118 k0_pay111 (quots raw sh ((y 0).val / 32))
    (shapeCast S32x128 (sel raw sh ((y 0).val / 32) ((y 1).val / 128)) shapeCasts_S32x128_S32x128) (loc y)

/-- The codes' buffer read at an index. -/
theorem read_codesL (v : View sig κ sp S192x3456 .fp8e4m3) (f : v.ty.Contents (Elt F)) (y : S192x3456.Idx) :
    v.read (Elt F) (v.writes (Elt F) f (codesL raw sh V 6)) y = codesVal raw sh y := by
  have hy0 : (y 0).val < 192 := (y 0).isLt
  have hy1 : (y 1).val < 3456 := (y 1).isLt
  suffices H : ∀ n ≤ 6, (y 0).val / 32 < n → v.read (Elt F) (v.writes (Elt F) f (codesL raw sh V n)) y = codesVal raw sh y from
    H 6 le_rfl (by omega)
  intro n
  induction n with
  | zero => intro _ h; omega
  | succ n ih =>
    intro hn h
    refine (read_row v f n (by omega) (codesL raw sh V n)
      (fun c _ => k0_pay117 k0_pay111 (quots raw sh n)
        (V.readCov (pass2 raw sh V n (pass1 raw sh n (staged raw sh V n) 27) c) (blk n c).toLoadRect)) y 27 le_rfl).trans ?_
    by_cases hg : (y 0).val / 32 = n
    · rw [if_pos ⟨hg, by omega⟩, readCov_pass raw sh V n _ (by omega) (by omega)]
      unfold codesVal
      rw [hg]
    · rw [if_neg (by omega)]
      exact ih (by omega) (by omega)

/-- The staged matrix read at an index. -/
theorem read_staged (v : View sig κ sp S192x3456 .bf16) (f : v.ty.Contents (Elt F)) (y : S192x3456.Idx) :
    v.read (Elt F) (v.writes (Elt F) f (staged raw sh V 6)) y = stagedVal raw sh y := by
  have hy0 : (y 0).val < 192 := (y 0).isLt
  have hy1 : (y 1).val < 3456 := (y 1).isLt
  suffices H : ∀ n ≤ 6, (y 0).val / 32 < n → v.read (Elt F) (v.writes (Elt F) f (staged raw sh V n)) y = stagedVal raw sh y from
    H 6 le_rfl (by omega)
  intro n
  induction n with
  | zero => intro _ h; omega
  | succ n ih =>
    intro hn h
    refine (read_row v f n (by omega) (pass1 raw sh n (staged raw sh V n) 27)
      (fun c L' => k0_pay118 k0_pay111 (quots raw sh n) (V.readCov L' (blk n c).toLoadRect)) y 27 le_rfl).trans ?_
    by_cases hg : (y 0).val / 32 = n
    · rw [if_pos ⟨hg, by omega⟩]
      refine (congrFun (congrArg (k0_pay118 k0_pay111 (quots raw sh n))
        (readCov_pass raw sh V n _ (by omega) (by omega) (staged raw sh V n))) (loc y)).trans ?_
      unfold stagedVal
      rw [hg]
    · rw [if_neg (by omega)]
      refine (read_row v f n (by omega) (staged raw sh V n)
        (fun c _ => shapeCast S32x128 (sel raw sh n c) shapeCasts_S32x128_S32x128) y 27 le_rfl).trans ?_
      rw [if_neg (by omega)]
      exact ih (by omega) (by omega)

/-- The place of a column inside its slab. -/
def locY (y : S192x2816.Idx) : S192x256.Idx := fun a =>
  match a with
  | ⟨0, _⟩ => ⟨(y 0).val, (y 0).isLt⟩
  | ⟨1, _⟩ => ⟨(y 1).val % 256, Nat.mod_lt _ (by decide)⟩

/-- The product's pieces read at an index. -/
theorem read_yPieces (v : View sig κ sp S192x2816 .bf16) (f : v.ty.Contents (Elt F)) (ysl : ℕ → Vec F S192x256 .bf16)
    (y : S192x2816.Idx) (n : ℕ) (hn : n ≤ 11) (h : (y 1).val / 256 < n) :
    v.read (Elt F) (v.writes (Elt F) f (yPieces ysl n)) y = ysl ((y 1).val / 256) (locY y) := by
  induction n with
  | zero => omega
  | succ n ih =>
    by_cases h1 : (y 1).val / 256 = n
    · rw [h1]
      refine View.read_writes_cons_unit_of_mem v f (inY n) (ysl n) (yPieces ysl n) y (locY y) (off' := ![0, 256 * n]) ?_ ?_
      · rw [Nat.mod_eq_of_lt (by omega)]
      · intro a
        fin_cases a
        · show (y 0).val = 0 + (y 0).val
          omega
        · show (y 1).val = 256 * n + (y 1).val % 256
          omega
    · refine (View.read_writes_cons_unit_of_not_mem v f (inY n) (ysl n) (yPieces ysl n) y rfl 1 ?_).trans (ih (by omega) (by omega))
      show (y 1).val < 256 * (n % 11) ∨ 256 * (n % 11) + 256 ≤ (y 1).val
      rw [Nat.mod_eq_of_lt (by omega)]; omega

/-- Slab `n` read where the product's pieces up to it are stored. -/
theorem read_ySlice (v : View sig κ sp S192x2816 .bf16) (f : v.ty.Contents (Elt F)) (ysl : ℕ → Vec F S192x256 .bf16) (n : ℕ) (hn : n < 11) :
    (fun x => v.read (Elt F) (v.writes (Elt F) f (yPieces ysl (n + 1))) ((yRect n).emb x)) = ysl n := by
  funext x
  have e1 : (((yRect n).emb x) 1).val = 256 * n + (x 1).val := by
    show 256 * (n % 11) + 1 * (x 1).val = _
    rw [Nat.mod_eq_of_lt hn]; omega
  have e0 : (((yRect n).emb x) 0).val = (x 0).val := by
    show 0 + 1 * (x 0).val = _
    omega
  have x1 : (x 1).val < 256 := (x 1).isLt
  have hd : (((yRect n).emb x) 1).val / 256 = n := by omega
  rw [read_yPieces v f ysl _ (n + 1) (by omega) (by omega), hd]
  congr 1
  funext a
  fin_cases a
  · exact Fin.ext e0
  · exact Fin.ext (by show (((yRect n).emb x) 1).val % 256 = (x 1).val; omega)

/-- Slab `n` of the weights read back from where the slabs were copied to is slab `n`. -/
theorem readCov_wPieces (v : View sig κ sp S3456x2816 .fp8e4m3) (wsl : ℕ → Vec F S3456x256 .fp8e4m3) (n : ℕ) (m : ℕ) (hm : m ≤ 11) (h : n < m) :
    v.readCov (wPieces wsl m) (wRect n).toLoadRect = wsl n := by
  induction m with
  | zero => omega
  | succ m ih =>
    by_cases h1 : n = m
    · subst h1
      exact View.readCov_cons_toLoadRect v (wRect n) (wsl n) (wPieces wsl n)
    · refine Eq.trans ?_ (ih (by omega) (by omega))
      funext x
      refine View.read_writes_cons_unit_of_not_mem v _ (inW m) (wsl m) (wPieces wsl m) ((wRect n).emb x) rfl 1 ?_
      have e1 : (((wRect n).emb x) 1).val = 256 * n + (x 1).val := by
        show 256 * (n % 11) + 1 * (x 1).val = _
        rw [Nat.mod_eq_of_lt (by omega)]; omega
      have x1 : (x 1).val < 256 := (x 1).isLt
      show (((wRect n).emb x) 1).val < 256 * (m % 11) ∨ 256 * (m % 11) + 256 ≤ (((wRect n).emb x) 1).val
      rw [Nat.mod_eq_of_lt (by omega), e1]; omega

end Cert.KernelIdeal.Hand
end
-- ==== Proof.IVals.lean ====
/- What the run leaves in the three results, as plain functions of what it reads: no staging buffer's prior contents occur. -/
module

public import proofs.«01_k».proof.Proof.IRead

@[expose] public section

set_option maxRecDepth 16384

noncomputable section

namespace Cert.KernelIdeal.Hand

open Cert.KernelIdeal.Gen
open Idealize.ShloMosaic Idealize.ShloMosaic.TcCoe Idealize.ShloMosaic.Tactic

variable {F : FTy → Type} [FloatOps F]

/-- The codes, from the candidate rows and the choice words. -/
def codesArr (x0 : Vec F S27x192x2x128 .bf16) (x1 : Vec F S192x128 .i32) : Vec F S192x3456 .fp8e4m3 := codesVal (rawOf x0) x1

/-- The row scales. -/
def sclArr (x0 : Vec F S27x192x2x128 .bf16) (x1 : Vec F S192x128 .i32) : Vec F S192 .f32 :=
  shapeCast S192 (scls (rawOf x0) x1) shapeCasts_S192x1_S192

/-- The product. -/
def yArr (x0 : Vec F S27x192x2x128 .bf16) (x1 : Vec F S192x128 .i32) (x2 : Vec F S1x2816 .f32) (w : Vec F S3456x2816 .fp8e4m3) :
    Vec F S192x2816 .bf16 := fun y =>
  ySlab (rawOf x0) x1 (stagedVal (rawOf x0) x1) (fun n x => w ((wRect n).emb x)) (fun n x => x2 ((cRect n).emb x))
    ((y 1).val / 256) (locY y)

variable (c : Dev nD)
  (arg0 : Memref sig .tc .vmem S27x192x2x128 .bf16) (harg0 : arg0.IsWhole)
  (arg1 : Memref sig .tc .vmem S192x128 .i32) (harg1 : arg1.IsWhole)
  (arg2 : Memref sig .tc .vmem S1x2816 .f32) (harg2 : arg2.IsWhole)
  (arg6 : Memref sig .tc .vmem S192 .f32) (harg6 : arg6.IsWhole)
  (arg7 : Memref sig .tc .vmem S192x3456 .bf16) (harg7 : arg7.IsWhole)
  (arg8 : Memref sig .tc .vmem S192x3456 .fp8e4m3) (harg8 : arg8.IsWhole)
  (x0 : Vec F S27x192x2x128 .bf16) (x1 : Vec F S192x128 .i32) (x2 : Vec F S1x2816 .f32)

/-- The loads of the pairs, as the run leaves them. -/
theorem rawRun_eq : rawRun arg0 harg0 x0 = rawOf x0 := by
  funext g ch
  unfold rawRun rawOf
  rw [View.readAt_eq_ld, harg0.read_unread]
  rfl

/-- The load of the choice words, as the run leaves it. -/
theorem shRun_eq : shRun arg1 harg1 x1 = x1 := by
  unfold shRun
  rw [View.readAt_eq_ld, harg1.read_unread]
  funext j
  refine congrArg x1 (funext fun a => Fin.ext ?_)
  fin_cases a
  · show 0 + 1 * (j 0).val = _
    simp
  · show 0 + 1 * (j 1).val = _
    simp

/-- The weight slab that the run reads back after its copy has arrived. -/
theorem wRun_eq (fh0 : HbBuf0 (F := F) c hbM0_0) (n : ℕ) (hn : n < 11) :
    wRun c fh0 n = fun x => (fh0 : Vec F S3456x2816 .fp8e4m3) ((wRect n).emb x) := by
  unfold wRun
  rw [readCov_wPieces _ _ n 11 le_rfl hn]
  rfl

/-- The slab of the product that the run stores. -/
theorem yRun_eq (fh0 : HbBuf0 (F := F) c hbM0_0) (n : ℕ) (hn : n < 11) :
    yRun c arg0 harg0 arg1 harg1 arg7 x0 x1 arg2 harg2 x2 fh0 n
      = ySlab (rawOf x0) x1 (stagedVal (rawOf x0) x1) (fun n x => (fh0 : Vec F S3456x2816 .fp8e4m3) ((wRect n).emb x)) (fun n x => x2 ((cRect n).emb x)) n := by
  unfold yRun
  rw [rawRun_eq, shRun_eq]
  have hX : arg7.view.readCov (staged (rawOf x0) x1 arg7.view 6)
      (Rect.unit (s := S192x3456) ![0, 0] S192x3456.size inb_S192x3456_S192x3456_0_0).toLoadRect = stagedVal (rawOf x0) x1 := by
    funext j
    refine (read_staged (rawOf x0) x1 arg7.view arg7.view arg7.view.junk _).trans (congrArg _ (funext fun a => Fin.ext ?_))
    fin_cases a
    · show 0 + 1 * (j 0).val = _
      simp
    · show 0 + 1 * (j 1).val = _
      simp
  rw [hX]
  unfold ySlab
  rw [wRun_eq c fh0 n hn]
  have hC : View.readAt (Elt F) arg2.view (cRect n).toLoadRect (harg2.unread x2) = fun x => x2 ((cRect n).emb x) := by
    rw [View.readAt_eq_ld, harg2.read_unread]
    rfl
  exact congrArg _ hC

/-- The product's array after its slabs, each read from the staging buffer once stored there, have been sent. -/
theorem ySent (ysl : ℕ → Vec F S192x256 .bf16) (f : HbBuf0 (F := F) c scM0_3) (fy : HbBuf0 (F := F) c hbM0_1) :
    hbM0_1.view.writes (Elt F) fy (yPieces (fun k => View.read (Elt F) ((Memref.whole cc0_scratch3).slice (yRect k) (fun _ => rfl)).view
        (scM0_3.view.writes (Elt F) f (yPieces ysl (k + 1)))) 11)
      = (fun y : S192x2816.Idx => ysl ((y 1).val / 256) (locY y) : Vec F S192x2816 .bf16) := by
  refine (View.read_whole main_v1_0 _).symm.trans (funext fun y => ?_)
  have hy1 : (y 1).val < 2816 := (y 1).isLt
  refine (read_yPieces hbM0_1.view fy _ y 11 le_rfl (by omega)).trans ?_
  exact congrFun (read_ySlice scM0_3.view f ysl ((y 1).val / 256) (by omega)) (locY y)

section
variable (fh0 : HbBuf0 (F := F) c hbM0_0) (fy : HbBuf0 (F := F) c hbM0_1) (fc : HbBuf0 (F := F) c hbM0_2) (q q4 q5 q6 q7 q8 q9 q10 q11 q12 q13 q14)

/-- The scales' pieces the run leaves. -/
theorem out_scales :
    (kernelRun0_A c arg0 harg0 arg1 harg1 arg2 harg2 arg6 harg6 arg7 harg7 arg8 harg8 x0 x1 x2 fh0 fy fc q q4 q5 q6 q7 q8 q9 q10 q11 q12 q13 q14).1.1
      = [⟨Rect.unit ![0] S192.size inb_S192_S192_0, sclArr x0 x1⟩] := by
  rw [run_scales, rawRun_eq, shRun_eq]
  rfl

/-- The codes' array the run leaves. -/
theorem out_codes (f) :
    (kernelRun0_A c arg0 harg0 arg1 harg1 arg2 harg2 arg6 harg6 arg7 harg7 arg8 harg8 x0 x1 x2 fh0 fy fc q q4 q5 q6 q7 q8 q9 q10 q11 q12 q13 q14).1.2.2 f
      = codesArr x0 x1 := by
  rw [run_codesOut, rawRun_eq, shRun_eq]
  have h : View.read (Elt F) arg8.view (arg8.view.writes (Elt F) f (codesL (rawOf x0) x1 arg7.view 6)) = codesArr x0 x1 :=
    funext fun y => read_codesL (rawOf x0) x1 arg7.view arg8.view f y
  rw [h]
  exact View.write_whole_univ main_v1_1 fc _

/-- The product's array the run leaves. -/
theorem out_y (f) :
    (kernelRun0_A c arg0 harg0 arg1 harg1 arg2 harg2 arg6 harg6 arg7 harg7 arg8 harg8 x0 x1 x2 fh0 fy fc q q4 q5 q6 q7 q8 q9 q10 q11 q12 q13 q14).1.2.1 f
      = yArr x0 x1 x2 fh0 := by
  rw [run_yOut]
  refine (ySent c _ f fy).trans (funext fun y => ?_)
  have hy1 : (y 1).val < 2816 := (y 1).isLt
  exact congrFun (yRun_eq c arg0 harg0 arg1 harg1 arg2 harg2 arg7 x0 x1 x2 fh0 _ (by omega)) (locY y)
end

end Cert.KernelIdeal.Hand
end
-- ==== Proof.ITriple.lean ====
/- The kernel's whole body, with what it leaves in closed form. -/
module

public import proofs.«01_k».proof.Proof.IVals

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The body run once on whole staging memrefs: the inputs as they were, the row scales' buffer with its one piece, the product's
    and the codes' arrays at their closed forms. -/
theorem kernelTriple (c : Dev nD) (arg0 : Memref sig .tc .vmem S27x192x2x128 .bf16) (harg0 : arg0.IsWhole) (arg1 : Memref sig .tc .vmem S192x128 .i32) (harg1 : arg1.IsWhole) (arg2 : Memref sig .tc .vmem S1x2816 .f32) (harg2 : arg2.IsWhole) (arg6 : Memref sig .tc .vmem S192 .f32) (harg6 : arg6.IsWhole) (arg7 : Memref sig .tc .vmem S192x3456 .bf16) (harg7 : arg7.IsWhole) (arg8 : Memref sig .tc .vmem S192x3456 .fp8e4m3) (harg8 : arg8.IsWhole)
    (x0 : Vec F S27x192x2x128 .bf16) (x1 : Vec F S192x128 .i32) (x2 : Vec F S1x2816 .f32) (fh0 : HbBuf0 (F := F) c hbM0_0) (fy : HbBuf0 (F := F) c hbM0_1) (fc : HbBuf0 (F := F) c hbM0_2)
    (plan : Transfers.BatchOf (c : Thread nD τ) (SemLoc.dma (sig := sig) 15) 11 (windows := true))
    (plan4 : Transfers.BatchOf (c : Thread nD τ) (SemLoc.dma (sig := sig) 4) 1 (windows := true))
    (plan5 : Transfers.BatchOf (c : Thread nD τ) (SemLoc.dma (sig := sig) 5) 1 (windows := true))
    (plan6 : Transfers.BatchOf (c : Thread nD τ) (SemLoc.dma (sig := sig) 6) 1 (windows := true))
    (plan7 : Transfers.BatchOf (c : Thread nD τ) (SemLoc.dma (sig := sig) 7) 1 (windows := true))
    (plan8 : Transfers.BatchOf (c : Thread nD τ) (SemLoc.dma (sig := sig) 8) 1 (windows := true))
    (plan9 : Transfers.BatchOf (c : Thread nD τ) (SemLoc.dma (sig := sig) 9) 1 (windows := true))
    (plan10 : Transfers.BatchOf (c : Thread nD τ) (SemLoc.dma (sig := sig) 10) 1 (windows := true))
    (plan11 : Transfers.BatchOf (c : Thread nD τ) (SemLoc.dma (sig := sig) 11) 1 (windows := true))
    (plan12 : Transfers.BatchOf (c : Thread nD τ) (SemLoc.dma (sig := sig) 12) 1 (windows := true))
    (plan13 : Transfers.BatchOf (c : Thread nD τ) (SemLoc.dma (sig := sig) 13) 1 (windows := true))
    (plan14 : Transfers.BatchOf (c : Thread nD τ) (SemLoc.dma (sig := sig) 14) 1 (windows := true)) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ (∃ d, owns (c : Thread nD τ) arg6 fullShare d) ∗ (∃ d, owns (c : Thread nD τ) arg7 fullShare d) ∗ (∃ d, owns (c : Thread nD τ) arg8 fullShare d) ∗ (∃ f, hbPt0 (F := F) c scM0_2 f) ∗ (∃ f, hbPt0 (F := F) c scM0_3 f) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ hbPt0 c hbM0_1 fy ∗ hbPt0 c hbM0_2 fc ∗ owes (c : Thread nD τ) 0 W
            ∗ (iprop(owns (c : Thread nD τ) arg0 fullShare x0 ∗ owns (c : Thread nD τ) arg1 fullShare x1 ∗ owns (c : Thread nD τ) arg2 fullShare x2 ∗ (∃ f, arg6.view.loc (c : Thread nD τ) ↦[arg6.view.set]{fullShare} arg6.view.writes (Elt F) f [⟨Rect.unit ![0] S192.size inb_S192_S192_0, sclArr x0 x1⟩]) ∗ (∃ d, owns (c : Thread nD τ) arg7 fullShare d) ∗ (∃ d, owns (c : Thread nD τ) arg8 fullShare d) ∗ (∃ f, hbPt0 (F := F) c scM0_2 f) ∗ (∃ f, hbPt0 (F := F) c scM0_3 f) ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ hbPt0 c hbM0_0 fh0 ∗ (∃ g : HbBuf0 (F := F) c scM0_3, hbPt0 c hbM0_1 (yArr x0 x1 x2 fh0)) ∗ (∃ g : arg8.view.ty.Contents (Elt F), hbPt0 c hbM0_2 (codesArr x0 x1)) ∗ (∃ W', owes (c : Thread nD τ) 0 W')) -∗ K ⟨⟩))
          ⊢ wp frame (wpE (defs₀ (F := F)) Variants.none c none) Set.univ (cc0_masked_fp8_linear arg0 harg0 arg1 harg1 arg2 harg2 (Memref.whole main_arg2) (Memref.isWhole_whole _) (Memref.whole main_v1_0) (Memref.isWhole_whole _) (Memref.whole main_v1_1) (Memref.isWhole_whole _) arg6 harg6 arg7 harg7 arg8 harg8 (Memref.whole cc0_scratch2) (Memref.isWhole_whole _) (Memref.whole cc0_scratch3) (Memref.isWhole_whole _) cc0_scratch4 cc0_scratch5 cc0_scratch6) K := by
  intro W K
  have h := (kernelRun0_A c arg0 harg0 arg1 harg1 arg2 harg2 arg6 harg6 arg7 harg7 arg8 harg8 x0 x1 x2 fh0 fy fc plan plan4 plan5 plan6 plan7 plan8 plan9 plan10 plan11 plan12 plan13 plan14).2 W K
  have e1 := out_scales c arg0 harg0 arg1 harg1 arg2 harg2 arg6 harg6 arg7 harg7 arg8 harg8 x0 x1 x2 fh0 fy fc plan plan4 plan5 plan6 plan7 plan8 plan9 plan10 plan11 plan12 plan13 plan14
  have e2 := out_codes c arg0 harg0 arg1 harg1 arg2 harg2 arg6 harg6 arg7 harg7 arg8 harg8 x0 x1 x2 fh0 fy fc plan plan4 plan5 plan6 plan7 plan8 plan9 plan10 plan11 plan12 plan13 plan14
  have e3 := out_y c arg0 harg0 arg1 harg1 arg2 harg2 arg6 harg6 arg7 harg7 arg8 harg8 x0 x1 x2 fh0 fy fc plan plan4 plan5 plan6 plan7 plan8 plan9 plan10 plan11 plan12 plan13 plan14
  generalize (kernelRun0_A c arg0 harg0 arg1 harg1 arg2 harg2 arg6 harg6 arg7 harg7 arg8 harg8 x0 x1 x2 fh0 fy fc plan plan4 plan5 plan6 plan7 plan8 plan9 plan10 plan11 plan12 plan13 plan14).1 = p at h e1 e2 e3
  obtain ⟨p1, p2, p3⟩ := p
  dsimp only at e1 e2 e3
  obtain rfl := e1
  obtain rfl : p3 = fun _ => codesArr x0 x1 := funext e2
  obtain rfl : p2 = fun _ => yArr x0 x1 x2 fh0 := funext e3
  exact h

end Cert.KernelIdeal.Hand
end
-- ==== Proof.IFrame.lean ====
/- The frame of the idealised kernel, with what it leaves: the row scales through the pipeline, the product and the codes
   through the body's own transfers, each named by its closed form. -/
module

public import proofs.«01_k».proof.Proof.ITriple
public import Idealize.ShloMosaic.Lib.Claim
public import Idealize.ShloMosaic.Lib.Pipeline.FrameValue

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## What the region leaves -/

/-- The first point of the pipeline, its only one. -/
def t0 : Fin cfg0.N := ⟨0, by decide⟩

/-- The product's array after the region. -/
def Yout (c : Dev nD) : Vec F S192x2816 .bf16 := yArr (iblk m c 0 t0) (iblk m c 1 t0) (iblk m c 2 t0) (V m c main_arg2)
/-- The codes' array after the region. -/
def Cout (c : Dev nD) : Vec F S192x3456 .fp8e4m3 := codesArr (iblk m c 0 t0) (iblk m c 1 t0)

/-- The HBM arrays after the region: as before it, but the product's and the codes'. -/
def G (c : Dev nD) : (b : Ref sig .tc) → Buf (Elt F) ((c.tc : Thread nD τ).loc b) :=
  Function.update (Function.update (V m c) main_v1_0 (Yout m c)) main_v1_1 (Cout m c)

theorem G_0 (c : Dev nD) : G m c main_v1_0 = Yout m c := by
  unfold G
  rw [Function.update_of_ne (by decide), Function.update_self]

theorem G_1 (c : Dev nD) : G m c main_v1_1 = Cout m c := by
  unfold G
  rw [Function.update_self]

/-! ## The pipeline's proof data -/

/-- What the body at point `t` leaves in the scales' buffer. -/
def outsAt0 (c : Dev nD) (t : Fin cfg0.N) : Vec F S192 .f32 := sclArr (iblk m c 0 t) (iblk m c 1 t)

/-- The proof data of the one pipeline on core `c`: the arrays as the region finds them; after the body each input's buffer at
    its block and the scales' at `outsAt0`; the invariant holds the arrays the body writes itself at their contents, before
    the point those at entry and after it `G`; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt0 m c t
  Φ t := Pipeline.ΦDRG osem0 spec0 H0 R0 (V m) (if t.val = 0 then V m else G m) c
  q _ := fullShare
  owed _ := 0

/-- The invariant with the written arrays held at given contents, conjunct by conjunct. -/
theorem PhiDRG0_eq (G : (c : Dev nD) → (b : Ref sig .tc) → Buf (Elt F) ((c.tc : Thread nD τ).loc b)) (c : Dev nD) :
    (Pipeline.ΦDRG osem0 spec0 H0 R0 (V m) G c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0) ∗ iprop(hbPt0 c hbM0_0 (V m c main_arg2)) ∗ iprop(hbPt0 c hbM0_1 (G c main_v1_0) ∗ hbPt0 c hbM0_2 (G c main_v1_1))) := by
  have hr : (Pipeline.routed R0 c (G c) : sProp 𝕄) = iprop(hbPt0 c hbM0_1 (G c main_v1_0) ∗ hbPt0 c hbM0_2 (G c main_v1_1)) := by
    unfold Pipeline.routed
    rw [BI.bigSep_eq_bigSepL_of_eq [main_v1_0, main_v1_1] (by decide) (by decide)]
    simp only [BI.bigSepL_cons_cons, BI.bigSepL_singleton]
    rfl
  rw [Pipeline.ΦDRG_eq, scopedRest0_eq, ownSems00_eq, hbmPts0_eq, hr]; simp only [scM0_0, scM0_1, scM0_2, scM0_3, owns_whole]; try rfl

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt0 m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- A whole scratch memref is held as its buffer. -/
theorem owns_scM0_2 (c : Dev nD) (d : HbBuf0 (F := F) c scM0_2) :
    (owns (c : Thread nD τ) scM0_2 fullShare d : sProp 𝕄) = hbPt0 c scM0_2 d := owns_whole _ _ _ _
/-- A whole scratch memref is held as its buffer. -/
theorem owns_scM0_3 (c : Dev nD) (d : HbBuf0 (F := F) c scM0_3) :
    (owns (c : Thread nD τ) scM0_3 fullShare d : sProp 𝕄) = hbPt0 c scM0_3 d := owns_whole _ _ _ _

/-- A single store of the whole of a 192-vector reads as its payload. -/
theorem read_scales {κ : Kind} {sp : Space} (v : View sig κ sp S192 .f32) (f : v.ty.Contents (Elt F)) (w : Vec F S192 .f32) :
    v.read (Elt F) (v.writes (Elt F) f [⟨Rect.unit ![0] S192.size inb_S192_S192_0, w⟩]) = w := by
  funext y
  exact View.read_writes_cons_unit_of_mem v f _ w [] y y (off' := ![0]) rfl fun a => by
    fin_cases a
    exact (Nat.zero_add _).symm

set_option maxHeartbeats 1600000 in
/-- The body at any point: the inputs' memrefs hold their blocks (`before0_W`); so the
    run applies; the invariant (`PhiDR0_eq`) hands the body its scratch, the register, its DMA cells at zero, the HBM operands it reads and those it writes, and takes them back — the written ones at whatever the point left, the rest as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  obtain rfl : t = t0 := Fin.ext (by have h : cfg0.N = 1 := by decide
                                     have := t.isLt; show t.val = 0; omega)
  unfold bodyPre bodyPost bodyAt0
  simp only [before0_0, before0_1, before0_2]
  rw [show (dats m 0 c).Φ t0.succ = Pipeline.ΦDRG osem0 spec0 H0 R0 (V m) (G m) c from rfl,
    show (dats m 0 c).Φ t0.castSucc = Pipeline.ΦDRG osem0 spec0 H0 R0 (V m) (V m) c from rfl,
    after0_0, after0_1, after0_2, after0_3, PhiDRG0_eq, PhiDRG0_eq, G_0, G_1]
  unfold Yout Cout outsAt0
  simp only [owns_scM0_2, owns_scM0_3]
  unfold Dat.owesAt Pipeline.owesWithin
  rw [show (dats m 0 c).owed t0.castSucc = 0 from rfl, show (dats m 0 c).owed t0.succ = 0 from rfl]
  iintro ⟨⟨⟨HS0, HS1, HS2, HS3⟩, Hg, ⟨Hq0, Hq1, Hq2, Hq3, Hq4, Hq5, Hq6, Hq7, Hq8, Hq9, Hq10, Hq11, Hq12⟩, Hh0, ⟨Hh1, Hh2⟩⟩, ⟨%W, -, HW⟩, ⟨%d0, H0⟩, ⟨%d1, H1⟩, ⟨%d2, H2⟩, ⟨%d3, H3⟩⟩
  iapply (kernelTriple c _ _ _ _ _ _ _ _ _ _ _ _ (iblk m c 0 t0) (iblk m c 1 t0) (iblk m c 2 t0) (V m c main_arg2) (V m c main_v1_0) (V m c main_v1_1) trivial trivial trivial trivial trivial trivial trivial trivial trivial trivial trivial trivial W _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hh0]; · iexact Hh0
  isplitl [Hh1]; · iexact Hh1
  isplitl [Hh2]; · iexact Hh2
  isplitl [HW]; · iexact HW
  iintro ⟨H0, H1, H2, ⟨%e3, H3⟩, HS0, HS1, HS2, HS3, Hq0, Hq1, Hq2, Hq3, Hq4, Hq5, Hq6, Hq7, Hq8, Hq9, Hq10, Hq11, Hq12, Hh0, ⟨%g1, Hh1⟩, ⟨%g2, Hh2⟩, ⟨%W', HW'⟩⟩
  isplitl [HS0 HS1 HS2 HS3 Hg Hq0 Hq1 Hq2 Hq3 Hq4 Hq5 Hq6 Hq7 Hq8 Hq9 Hq10 Hq11 Hq12 Hh0 Hh1 Hh2]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1 Hq2 Hq3 Hq4 Hq5 Hq6 Hq7 Hq8 Hq9 Hq10 Hq11 Hq12]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      iexact Hq12
    isplitl [Hh0]
    · iexact Hh0
    isplitl [Hh1]; · iexact Hh1
    iexact Hh2
  isplitl [HW']
  · iexists W'; isplitr; · ipureintro; exact fun _ _ => Or.inl trivial
    iexact HW'
  isplitl [H0]; · iexact H0
  isplitl [H1]; · iexact H1
  isplitl [H2]; · iexact H2
  unfold owns; iexists _; isplitr
  swap; · iexact H3
  ipureintro
  exact read_scales _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dmaRG`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePostRG cfgs (dats m) 0 R0 (V m) (G m)) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (G := G m) (hin := fun _ => .rfl) (hout := fun _ => .rfl)

/-- At the compiled mesh, for any values, from any memory with zero counters: every weakly fair execution of @main on the
    TensorCores terminates, and every final state has every array of the pipeline at what the library computes from the
    proof data and every other unscoped buffer but those the body writes by its own transfers (`R0`)
    at its region-entry contents (Lib/Pipeline/Frame.lean `FramePostR`: nothing is said of those). -/
theorem run_main : θ_run defs (onTc (τ := τ) (main (F := F))) (s₀ m ρ) (Pipeline.FramePostRG cfgs (dats m) 0 R0 (V m) (G m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.toR) (run_main m ρ))

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.IValue.lean ====
/- What the idealised kernel's run leaves in its three result arrays, as functions of the argument arrays. -/
module

public import proofs.«01_k».proof.Proof.IFrame
public import Idealize.ShloMosaic.Lib.Pipeline.Value

@[expose] public section

set_option maxRecDepth 16384

noncomputable section

namespace Cert.KernelIdeal.Hand

open Cert.KernelIdeal.Gen

open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-! ## Each window's block at the one point is its array -/

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S27x192x2x128.Idx) : ((cfg0.win 0).blk t).view.emb j = j := by
  obtain ⟨e0, e1, e2, e3⟩ := idx_zero0 t
  funext a; apply Fin.ext
  match a with
  | ⟨0, _⟩ => show win0_0.index t (0 : Fin 4) * 27 + 1 * (j 0).val = (j 0).val; omega
  | ⟨1, _⟩ => show win0_0.index t (1 : Fin 4) * 192 + 1 * (j 1).val = (j 1).val; omega
  | ⟨2, _⟩ => show win0_0.index t (2 : Fin 4) * 2 + 1 * (j 2).val = (j 2).val; omega
  | ⟨3, _⟩ => show win0_0.index t (3 : Fin 4) * 128 + 1 * (j 3).val = (j 3).val; omega

/-- The candidates' block is their array as launched. -/
theorem iblk0_eq (c : Dev nD) (t : Fin cfg0.N) : iblk m c 0 t = m ((c : Thread nD τ).loc main_arg0) := by
  refine Eq.trans ?_ (V_main_arg0 m c)
  funext j; show V m c main_arg0 (((cfg0.win 0).blk t).view.emb j) = V m c main_arg0 j; rw [emb0]

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S192x128.Idx) : ((cfg0.win 1).blk t).view.emb j = j := by
  obtain ⟨e0, e1⟩ := idx_zero1 t
  funext a; apply Fin.ext
  match a with
  | ⟨0, _⟩ => show win0_1.index t (0 : Fin 2) * 192 + 1 * (j 0).val = (j 0).val; omega
  | ⟨1, _⟩ => show win0_1.index t (1 : Fin 2) * 128 + 1 * (j 1).val = (j 1).val; omega

/-- The choice words' block is their array as launched. -/
theorem iblk1_eq (c : Dev nD) (t : Fin cfg0.N) : iblk m c 1 t = m ((c : Thread nD τ).loc main_arg1) := by
  refine Eq.trans ?_ (V_main_arg1 m c)
  funext j; show V m c main_arg1 (((cfg0.win 1).blk t).view.emb j) = V m c main_arg1 j; rw [emb1]

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1x2816.Idx) : ((cfg0.win 2).blk t).view.emb j = j := by
  obtain ⟨e0, e1⟩ := idx_zero2 t
  funext a; apply Fin.ext
  match a with
  | ⟨0, _⟩ => show win0_2.index t (0 : Fin 2) * 1 + 1 * (j 0).val = (j 0).val; omega
  | ⟨1, _⟩ => show win0_2.index t (1 : Fin 2) * 2816 + 1 * (j 1).val = (j 1).val; omega

/-- The region finds the column scales reshaped to one row. -/
theorem V_main_v0 (c : Dev nD) :
    V m c main_v0 = shapeCast S1x2816 (m ((c : Thread nD τ).loc main_arg3)) shapeCasts_S2816_S1x2816 := by
  show StableHlo.after hostOps0 (fun b => m (c, b)) (Proc.tc.devRef main_v0) = _
  unfold hostOps0
  simp only [StableHlo.after_cons, StableHlo.after_nil]
  exact (StableHlo.reshape_result (Val := Elt F) main_arg3 main_v0 rfl shapeCasts_S2816_S1x2816 _ _ (fun b => m (c, b))).trans rfl

/-- The column scales' block is the scales as launched, reshaped. -/
theorem iblk2_eq (c : Dev nD) (t : Fin cfg0.N) :
    iblk m c 2 t = shapeCast S1x2816 (m ((c : Thread nD τ).loc main_arg3)) shapeCasts_S2816_S1x2816 := by
  refine Eq.trans ?_ (V_main_v0 m c)
  funext j; show V m c main_v0 (((cfg0.win 2).blk t).view.emb j) = V m c main_v0 j; rw [emb2]

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S192.Idx) : ((cfg0.win 3).blk t).view.emb j = j := by
  have e0 := idx_zero3 t
  funext a; apply Fin.ext
  match a with
  | ⟨0, _⟩ => show win0_3.index t (0 : Fin 1) * 192 + 1 * (j 0).val = (j 0).val; omega

/-- Cutting the point's block out of `X` and reading `X` through the block's view give the same. -/
theorem cut3_eq (t : Fin cfg0.N) (X : Vec F S192 .f32) :
    (cfg0.win 3).cut (grid0.coords t) X = ((cfg0.win 3).blk t).view.read (Elt F) X := by
  funext j
  show X j = X (((cfg0.win 3).blk t).view.emb j)
  rw [emb3]

/-! ## The three results -/

/-- The scales of the argument arrays. -/
abbrev Sres (c : Dev nD) : Vec F S192 .f32 := sclArr (m ((c : Thread nD τ).loc main_arg0)) (m ((c : Thread nD τ).loc main_arg1))
/-- The codes of the argument arrays. -/
abbrev Cres (c : Dev nD) : Vec F S192x3456 .fp8e4m3 := codesArr (m ((c : Thread nD τ).loc main_arg0)) (m ((c : Thread nD τ).loc main_arg1))
/-- The product of the argument arrays. -/
abbrev Yres (c : Dev nD) : Vec F S192x2816 .bf16 :=
  yArr (m ((c : Thread nD τ).loc main_arg0)) (m ((c : Thread nD τ).loc main_arg1))
    (shapeCast S1x2816 (m ((c : Thread nD τ).loc main_arg3)) shapeCasts_S2816_S1x2816) (m ((c : Thread nD τ).loc main_arg2))

/-- What the point writes back is its block of the scales. -/
theorem flushed3_eq (c : Dev nD) (t : Fin cfg0.N) :
    (dats m 0 c).flushed 3 t = ((cfg0.win 3).blk t).view.read (Elt F) (Sres m c) := by
  show (cfg0.win 3).cut (grid0.coords t) ((dats m 0 c).after 3 t) = _
  rw [after0_3, outsAt0, iblk0_eq, iblk1_eq]
  exact cut3_eq t _

/-- Every index of the scales is in the point's block. -/
theorem covered3 (i : S192.Idx) :
    ∃ t : Fin cfg0.N, (cfg0.win 3).flush t = true ∧ i ∈ ((cfg0.win 3).blk t).view.set :=
  ⟨t0, flush0_3 _, by have h := ((cfg0.win 3).blk t0).view.emb_mem_set i; rwa [emb3] at h⟩

/-- The scales' array after the run. -/
theorem final3 (c : Dev nD) : (dats m 0 c).arrAt 3 cfg0.N = Sres m c :=
  (dats m 0 c).arrAt_eq_of_cover 3 (Sres m c) (fun t _ => flushed3_eq m c t) covered3

/-- The product's array after the run. -/
theorem Yout_eq (c : Dev nD) : Yout m c = Yres m c := by
  unfold Yout
  rw [iblk0_eq, iblk1_eq, iblk2_eq, V_main_arg2]

/-- The codes' array after the run. -/
theorem Cout_eq (c : Dev nD) : Cout m c = Cres m c := by
  unfold Cout
  rw [iblk0_eq, iblk1_eq]

/-- The run: each result array at its function of the arguments, the arguments unchanged. -/
theorem run : θ_run defs (onTc (τ := τ) (main (F := F))) ⟨m, fun _ => 0, ρ⟩ (fun r => ∀ c : Dev nD,
      r.2.mem ((c.tc : Thread nD τ).loc main_v1_0) = Yres m c
      ∧ r.2.mem ((c.tc : Thread nD τ).loc main_v1_1) = Cres m c
      ∧ r.2.mem ((c.tc : Thread nD τ).loc main_v1_2) = Sres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1.written c (b := main_v1_0) (by decide)).trans (G_0 m c)).trans (Yout_eq m c),
      ((h.1.written c (b := main_v1_1) (by decide)).trans (G_1 m c)).trans (Cout_eq m c),
      ((h.1.toR c).1 3).trans (final3 m c), h.2 c⟩)
    (θ_run_and (run_main m ρ) (unchanged m ρ))

end Cert.KernelIdeal.Hand

end
-- ==== Proof.RRun.lean ====
/- The reference's run, with each result as one function of the argument arrays: a copy of the generated value leg, without
   its index-by-index form of the codes. -/
module

public import proofs.«01_k».proof.Proof.Gen.ReferenceIdeal.Frame
public import Idealize.ShloMosaic.Lib.Pipeline.Value

@[expose] public section

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S192x2816.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S192x3456.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S192.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      kept_main_arg0 m r h c,
      kept_main_arg1 m r h c,
      kept_main_arg2 m r h c,
      kept_main_arg3 m r h c⟩)
    (run_main m ρ)

/-! ## Closed form at one grid point: every window's block is its array -/

/-- The listed offsets are all zero. -/
theorem hz0 : (![0, 0, 0, 0] : Fin 4 → Nat) = fun _ => 0 := funext fun a => by fin_cases a <;> rfl

/-- Window 0's block index at the one point is zero on every axis. -/
theorem idx_zero0 : ∀ t : Fin cfg0.N, win0_0.index t (0 : Fin 4) = 0 ∧ win0_0.index t (1 : Fin 4) = 0 ∧ win0_0.index t (2 : Fin 4) = 0 ∧ win0_0.index t (3 : Fin 4) = 0 :=
  (by decide +kernel : ∀ t : Fin grid0.N, _)

/-- An index of window 0's block is the same index of its array. -/
theorem emb0 (t : Fin cfg0.N) (j : S27x192x2x128.Idx) : ((cfg0.win 0).blk t).view.emb j = j := by
  obtain ⟨e0, e1, e2, e3⟩ := idx_zero0 t
  funext a; apply Fin.ext
  match a with
  | ⟨0, _⟩ => show win0_0.index t (0 : Fin 4) * 27 + 1 * (j 0).val = (j 0).val; omega
  | ⟨1, _⟩ => show win0_0.index t (1 : Fin 4) * 192 + 1 * (j 1).val = (j 1).val; omega
  | ⟨2, _⟩ => show win0_0.index t (2 : Fin 4) * 2 + 1 * (j 2).val = (j 2).val; omega
  | ⟨3, _⟩ => show win0_0.index t (3 : Fin 4) * 128 + 1 * (j 3).val = (j 3).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The listed offsets are all zero. -/
theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S192x128.Idx) : ((cfg0.win 1).blk t).view.emb j = j := by
  obtain ⟨e0, e1⟩ := idx_zero1 t
  funext a; apply Fin.ext
  match a with
  | ⟨0, _⟩ => show win0_1.index t (0 : Fin 2) * 192 + 1 * (j 0).val = (j 0).val; omega
  | ⟨1, _⟩ => show win0_1.index t (1 : Fin 2) * 128 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- The listed offsets are all zero. -/
theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S3456x2816.Idx) : ((cfg0.win 2).blk t).view.emb j = j := by
  obtain ⟨e0, e1⟩ := idx_zero2 t
  funext a; apply Fin.ext
  match a with
  | ⟨0, _⟩ => show win0_2.index t (0 : Fin 2) * 3456 + 1 * (j 0).val = (j 0).val; omega
  | ⟨1, _⟩ => show win0_2.index t (1 : Fin 2) * 2816 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- The listed offsets are all zero. -/
theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S2816.Idx) : ((cfg0.win 3).blk t).view.emb j = j := by
  have e0 := idx_zero3 t
  funext a; apply Fin.ext
  match a with
  | ⟨0, _⟩ => show win0_3.index t (0 : Fin 1) * 2816 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

/-- The listed offsets are all zero. -/
theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S192x2816.Idx) : ((cfg0.win 4).blk t).view.emb j = j := by
  obtain ⟨e0, e1⟩ := idx_zero4 t
  funext a; apply Fin.ext
  match a with
  | ⟨0, _⟩ => show win0_4.index t (0 : Fin 2) * 192 + 1 * (j 0).val = (j 0).val; omega
  | ⟨1, _⟩ => show win0_4.index t (1 : Fin 2) * 2816 + 1 * (j 1).val = (j 1).val; omega

/-- The listed offsets are all zero. -/
theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S192x3456.Idx) : ((cfg0.win 5).blk t).view.emb j = j := by
  obtain ⟨e0, e1⟩ := idx_zero5 t
  funext a; apply Fin.ext
  match a with
  | ⟨0, _⟩ => show win0_5.index t (0 : Fin 2) * 192 + 1 * (j 0).val = (j 0).val; omega
  | ⟨1, _⟩ => show win0_5.index t (1 : Fin 2) * 3456 + 1 * (j 1).val = (j 1).val; omega

/-- The listed offsets are all zero. -/
theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S192.Idx) : ((cfg0.win 6).blk t).view.emb j = j := by
  have e0 := idx_zero6 t
  funext a; apply Fin.ext
  match a with
  | ⟨0, _⟩ => show win0_6.index t (0 : Fin 1) * 192 + 1 * (j 0).val = (j 0).val; omega

/-! ### Output window 4: the array after the run -/

/-- What the window's array ends holding: `out0_4` applied to the argument arrays in place of the input blocks (a value that the
    frame states apart, `kK_payN a…`, keeps its loads inside its own definition). -/
abbrev G4 (a0 : Vec F S27x192x2x128 .bf16) (a1 : Vec F S192x128 .i32) (a2 : Vec F S3456x2816 .fp8e4m3) (a3 : Vec F S2816 .f32) : Vec F S192x2816 .bf16 :=
  k0_pay3 (k0_pay36 a0 a1 a2 a3) (k0_pay38 a0 a1 a2 a3) a2 a3

/-- A load of the whole of a block reads the block, and the one store through the whole rectangle leaves its payload. -/
theorem out4_eq (a0 : Vec F S27x192x2x128 .bf16) (a1 : Vec F S192x128 .i32) (a2 : Vec F S3456x2816 .fp8e4m3) (a3 : Vec F S2816 .f32) : out0_4 (F := F) a0 a1 a2 a3 = G4 a0 a1 a2 a3 := by
  unfold out0_4
  rw [View.canon_unit_zero hz4, View.ld_unit_zero (S := S3456x2816) hz2 _ a2, View.ld_unit_zero (S := S2816) hz3 _ a3]

/-- Cutting the point's block out of `X` and reading `X` through the block's view give the same. -/
theorem cut4_eq (t : Fin cfg0.N) (X : Vec F S192x2816 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S192x2816.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S27x192x2x128 .bf16) (a1 : Vec F S192x128 .i32) (a2 : Vec F S3456x2816 .fp8e4m3) (a3 : Vec F S2816 .f32) : Vec F S192x3456 .fp8e4m3 :=
  k0_pay38 a0 a1 a2 a3

/-- The one store through the whole rectangle leaves its payload. -/
theorem out5_eq (a0 : Vec F S27x192x2x128 .bf16) (a1 : Vec F S192x128 .i32) (a2 : Vec F S3456x2816 .fp8e4m3) (a3 : Vec F S2816 .f32) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S192x3456 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S192x3456.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S27x192x2x128 .bf16) (a1 : Vec F S192x128 .i32) (a2 : Vec F S3456x2816 .fp8e4m3) (a3 : Vec F S2816 .f32) : Vec F S192 .f32 :=
  k0_pay2 (k0_pay36 a0 a1 a2 a3)

/-- The one store through the whole rectangle leaves its payload. -/
theorem out6_eq (a0 : Vec F S27x192x2x128 .bf16) (a1 : Vec F S192x128 .i32) (a2 : Vec F S3456x2816 .fp8e4m3) (a3 : Vec F S2816 .f32) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S192 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S192.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.ReferenceIdeal.Hand

end
-- ==== Proof.IMath.lean ====
/- The exponent of the power-of-two row scale, at extended reals: the count of powers of two below the quotient, as the kernel
   takes it, names the same power as the least exponent above the quotient, as the reference takes it. -/
module

public import Idealize.ShloMosaic.PureOps.Ideal
public import Mathlib.Data.EReal.Operations
public import Mathlib.Analysis.SpecialFunctions.Pow.Real

@[expose] public section

set_option maxRecDepth 16384

noncomputable section

namespace Cert.KernelIdeal.Hand

open Idealize.ShloMosaic

/-- The three fields of the word `e <<< 23`. -/
theorem fields : ∀ e : Fin 256, ((BitVec.ofNat 32 e.val <<< 23).extractLsb' 31 1 == 1#1) = false
    ∧ ((BitVec.ofNat 32 e.val <<< 23).extractLsb' 23 8).toNat = e.val ∧ ((BitVec.ofNat 32 e.val <<< 23).extractLsb' 0 23).toNat = 0 := by
  decide +kernel

/-- The word with exponent field `e` and nothing else is a power of two. -/
theorem pow_word (e : ℕ) (h0 : 1 ≤ e) (h1 : e < 255) :
    Ideal.ieee 8 23 (BitVec.ofNat 32 e <<< 23) = (((2 : ℝ) ^ ((e : ℤ) - 127) : ℝ) : EReal) := by
  have hF := fields ⟨e, by omega⟩
  generalize BitVec.ofNat 32 e <<< 23 = w at hF ⊢
  obtain ⟨a, b, c⟩ := hF
  unfold Ideal.ieee
  simp only [a, b, c]
  rw [if_neg (by norm_num; omega), if_neg (by omega)]
  congr 1
  have : (2 : ℝ) ^ ((e : ℤ) - 127) = 2 ^ 23 * 2 ^ ((e : ℤ) - 127 - 23) := by
    rw [← zpow_natCast, ← zpow_add₀ (by norm_num)]; congr 1; push_cast; ring
  rw [this]; norm_num

/-- The word with every exponent bit set is infinite. -/
theorem top_word : Ideal.ieee 8 23 (BitVec.ofNat 32 255 <<< 23) = ⊤ := by
  have hF := fields ⟨255, by omega⟩
  generalize BitVec.ofNat 32 255 <<< 23 = w at hF ⊢
  obtain ⟨a, b, c⟩ := hF
  unfold Ideal.ieee
  simp only [a, b, c]
  norm_num

/-- The `k`-th power of two the kernel compares with. -/
def thr (k : ℕ) : EReal := Ideal.ofBits .f32 (BitVec.ofNat 32 (k + 1) <<< 23)

/-- How many of the powers lie at or below `t`. -/
def cnt (t : EReal) : ℕ := (Finset.univ.filter fun k : Fin 255 => thr k ≤ t).card

/-- The exponent field the kernel gives the scale. -/
def fieldOf (t : EReal) : ℕ := if cnt t = 0 then 127 else cnt t + 1

/-- The `k`-th candidate exponent of the reference. -/
def cand (k : ℕ) : EReal := (((k : ℝ) - 126 : ℝ) : EReal)

/-- The exponent the reference gives the scale. -/
def expOf (t : EReal) : EReal :=
  if t < Ideal.exp2 ((-126 : ℝ) : EReal) then 0
  else Finset.univ.fold min ⊤ (fun k : Fin 256 => if t < Ideal.exp2 (cand k) then cand k else ((129 : ℝ) : EReal))

/-- The threshold numbered `k` is `2 ^ (k - 126)`. -/
theorem thr_lt {k : ℕ} (h : k < 254) : thr k = (((2 : ℝ) ^ ((k : ℤ) - 126) : ℝ) : EReal) := by
  have := pow_word (k + 1) (by omega) (by omega)
  unfold thr
  show Ideal.ieee 8 23 _ = _
  rw [this]; congr 2; push_cast; ring

/-- The last threshold is infinite. -/
theorem thr_top : thr 254 = ⊤ := top_word

/-- The power at a candidate exponent. -/
theorem exp2_cand (k : ℕ) : Ideal.exp2 (cand k) = (((2 : ℝ) ^ ((k : ℤ) - 126) : ℝ) : EReal) := by
  unfold cand Ideal.exp2
  show ((Real.rpow 2 _ : ℝ) : EReal) = _
  congr 1
  rw [← Real.rpow_intCast]; push_cast; rfl

/-- The least positive threshold. -/
theorem exp2_low : Ideal.exp2 ((-126 : ℝ) : EReal) = (((2 : ℝ) ^ (-126 : ℤ) : ℝ) : EReal) := by
  have := exp2_cand 0
  unfold cand at this
  simpa using this

/-- A quotient at or above the least normal power sits between two neighbouring powers. -/
theorem between (r : ℝ) (h0 : (2 : ℝ) ^ (-126 : ℤ) ≤ r) (h1 : r < (2 : ℝ) ^ (126 : ℤ)) :
    ∃ j : ℕ, j < 252 ∧ (2 : ℝ) ^ ((j : ℤ) - 126) ≤ r ∧ r < (2 : ℝ) ^ ((j : ℤ) + 1 - 126) := by
  have hex : ∃ n : ℕ, r < (2 : ℝ) ^ ((n : ℤ) + 1 - 126) := ⟨251, by norm_num at h1 ⊢; exact h1⟩
  classical
  refine ⟨Nat.find hex, ?_, ?_, Nat.find_spec hex⟩
  · have : Nat.find hex ≤ 251 := Nat.find_min' hex (by norm_num at h1 ⊢; exact h1)
    omega
  · by_cases hz : Nat.find hex = 0
    · rw [hz]; simpa using h0
    · have := Nat.find_min hex (m := Nat.find hex - 1) (by omega)
      push Not at this
      have e : ((Nat.find hex - 1 : ℕ) : ℤ) + 1 = (Nat.find hex : ℤ) := by omega
      rwa [e] at this

/-- Powers of two are ordered as their exponents. -/
theorem zpow_le_iff (a b : ℤ) : (2 : ℝ) ^ a ≤ (2 : ℝ) ^ b ↔ a ≤ b := zpow_le_zpow_iff_right₀ (by norm_num)

/-- The count between two neighbouring powers. -/
theorem cnt_between (r : ℝ) (j : ℕ) (hj : j < 252) (h0 : (2 : ℝ) ^ ((j : ℤ) - 126) ≤ r) (h1 : r < (2 : ℝ) ^ ((j : ℤ) + 1 - 126)) :
    cnt (r : EReal) = j + 1 := by
  unfold cnt
  have : (Finset.univ.filter fun k : Fin 255 => thr k ≤ (r : EReal)) = Finset.univ.filter fun k : Fin 255 => k.val < j + 1 := by
    ext k
    simp only [Finset.mem_filter, Finset.mem_univ, true_and]
    rcases Nat.lt_or_ge k.val 254 with hk | hk
    · rw [thr_lt hk, EReal.coe_le_coe_iff]
      constructor
      · intro h
        by_contra hc
        have : (2 : ℝ) ^ ((j : ℤ) + 1 - 126) ≤ 2 ^ ((k.val : ℤ) - 126) := (zpow_le_iff _ _).2 (by omega)
        linarith
      · intro h
        exact le_trans ((zpow_le_iff _ _).2 (by omega)) h0
    · have : k.val = 254 := by omega
      rw [this, thr_top]
      simp; omega
  rw [this, Fin.card_filter_val_lt]
  omega

/-- Below the least normal power nothing is counted. -/
theorem cnt_low (r : ℝ) (h : r < (2 : ℝ) ^ (-126 : ℤ)) : cnt (r : EReal) = 0 := by
  unfold cnt
  rw [Finset.card_eq_zero, Finset.filter_eq_empty_iff]
  intro k _
  rcases Nat.lt_or_ge k.val 254 with hk | hk
  · rw [thr_lt hk, EReal.coe_le_coe_iff, not_le]
    exact lt_of_lt_of_le h ((zpow_le_iff _ _).2 (by omega))
  · have : k.val = 254 := by omega
    rw [this, thr_top]; simp

/-- The reference's exponent between two neighbouring powers. -/
theorem exp_between (r : ℝ) (j : ℕ) (hj : j < 252) (h0 : (2 : ℝ) ^ ((j : ℤ) - 126) ≤ r) (h1 : r < (2 : ℝ) ^ ((j : ℤ) + 1 - 126)) :
    expOf (r : EReal) = (((j : ℝ) + 1 - 126 : ℝ) : EReal) := by
  unfold expOf
  rw [exp2_low, if_neg (by rw [EReal.coe_lt_coe_iff, not_lt]; exact le_trans ((zpow_le_iff _ _).2 (by omega)) h0)]
  apply le_antisymm
  · refine (Finset.fold_min_le _).2 (Or.inr ⟨⟨j + 1, by omega⟩, Finset.mem_univ _, ?_⟩)
    rw [if_pos (by rw [exp2_cand, EReal.coe_lt_coe_iff]; push_cast; exact h1)]
    unfold cand; push_cast; exact le_rfl
  · refine (Finset.le_fold_min _).2 ⟨le_top, fun k _ => ?_⟩
    split_ifs with h
    · rw [exp2_cand, EReal.coe_lt_coe_iff] at h
      have : (j : ℤ) - 126 < (k.val : ℤ) - 126 := by
        by_contra hc
        have := (zpow_le_iff ((k.val : ℤ) - 126) ((j : ℤ) - 126)).2 (by omega)
        linarith
      unfold cand
      rw [EReal.coe_le_coe_iff]
      have : j + 1 ≤ k.val := by omega
      have : ((j : ℝ) + 1) ≤ (k.val : ℝ) := by exact_mod_cast this
      linarith
    · rw [EReal.coe_le_coe_iff]
      have : (j : ℝ) < 252 := by exact_mod_cast hj
      linarith

/-- The power function at a real that is an integer. -/
theorem exp2_real (x : ℤ) (y : ℝ) (h : y = x) : Ideal.exp2 (y : EReal) = (((2 : ℝ) ^ x : ℝ) : EReal) := by
  subst h
  show ((Real.rpow 2 _ : ℝ) : EReal) = _
  congr 1
  exact Real.rpow_intCast 2 x

/-- The two exponents name one scale, and one inverse of it; the field is an ordinary exponent field. -/
theorem scale_eq (t : EReal) (h0 : 0 ≤ t) (h1 : t < (((2 : ℝ) ^ (126 : ℤ) : ℝ) : EReal)) :
    Ideal.ofBits .f32 (BitVec.ofNat 32 (fieldOf t) <<< 23) = Ideal.exp2 (expOf t)
    ∧ Ideal.ofBits .f32 ((254#32 - BitVec.ofNat 32 (fieldOf t)) <<< 23) = Ideal.exp2 (0 - expOf t) := by
  induction t using EReal.rec with
  | bot => simp at h0
  | top => simp at h1
  | coe r =>
    rw [EReal.coe_lt_coe_iff] at h1
    show Ideal.ieee 8 23 _ = _ ∧ Ideal.ieee 8 23 _ = _
    rcases lt_or_ge r ((2 : ℝ) ^ (-126 : ℤ)) with hl | hl
    · have e : expOf (r : EReal) = ((0 : ℝ) : EReal) := by
        unfold expOf
        rw [exp2_low, if_pos (by rw [EReal.coe_lt_coe_iff]; exact hl)]; rfl
      have f : fieldOf (r : EReal) = 127 := by unfold fieldOf; rw [cnt_low r hl]; rfl
      rw [e, f]
      have : (0 : EReal) - ((0 : ℝ) : EReal) = ((0 : ℝ) : EReal) := by simp
      rw [this, exp2_real 0 0 (by simp)]
      have w := pow_word 127 (by omega) (by omega)
      refine ⟨by rw [w]; norm_num, ?_⟩
      have : 254#32 - BitVec.ofNat 32 127 = BitVec.ofNat 32 127 := by decide
      rw [this, w]; norm_num
    · obtain ⟨j, hj, ha, hb⟩ := between r hl h1
      have e := exp_between r j hj ha hb
      have f : fieldOf (r : EReal) = j + 2 := by
        unfold fieldOf; rw [cnt_between r j hj ha hb]; simp
      rw [e, f]
      have : (0 : EReal) - (((j : ℝ) + 1 - 126 : ℝ) : EReal) = ((125 - (j : ℝ) : ℝ) : EReal) := by
        rw [← EReal.coe_zero, ← EReal.coe_sub]; congr 1; ring
      rw [this, exp2_real ((j : ℤ) + 1 - 126) _ (by push_cast; ring), exp2_real (125 - (j : ℤ)) _ (by push_cast; ring)]
      have s : 254#32 - BitVec.ofNat 32 (j + 2) = BitVec.ofNat 32 (252 - j) := by
        apply BitVec.eq_of_toNat_eq
        simp only [BitVec.toNat_sub, BitVec.toNat_ofNat]
        omega
      rw [s, pow_word (j + 2) (by omega) (by omega), pow_word (252 - j) (by omega) (by omega)]
      constructor <;> congr 2 <;> push_cast <;> omega

end Cert.KernelIdeal.Hand
-- ==== Proof.IKern.lean ====
/- The kernel's values at extended reals, read at an index. -/
module

public import proofs.«01_k».proof.Proof.IVals
public import proofs.«01_k».proof.Proof.IMath
public import Idealize.ShloMosaic.PureOps.Ideal.Laws
public import Idealize.ShloMosaic.Lib.ValueIdx
public import Idealize.ShloMosaic.Lib.WordCmp
public import Idealize.ShloMosaic.Lib.Pipeline.Value
public import Idealize.ShloMosaic.Lib.Pointwise.SelectCore

@[expose] public section

set_option maxRecDepth 16384

noncomputable section

namespace Cert.KernelIdeal.Hand

open Cert.KernelIdeal.Gen
open Idealize.ShloMosaic Idealize.ShloMosaic.TcCoe Idealize.ShloMosaic.Tactic

/-- A choice by a comparison for inequality. -/
theorem select_ne {α : Type} (x y : BitVec 32) (a b : α) : Scalar.select (IntOp.cmpi .ne x y) a b = if x ≠ y then a else b := by
  rw [WordCmp.cmpi_ne_eq]
  by_cases h : x = y <;> simp [Scalar.select, h]

/-- A choice by a comparison for equality. -/
theorem select_eq {α : Type} (x y : BitVec 32) (a b : α) : Scalar.select (IntOp.cmpi .eq x y) a b = if x = y then a else b := by
  rw [WordCmp.cmpi_eq_eq]
  by_cases h : x = y <;> simp [Scalar.select, h]

/-- A choice by a comparison of extended reals. -/
theorem select_lt {α : Type} (x y : EReal) (a b : α) : Scalar.select (Ideal.cmp .olt x y) a b = if x < y then a else b := by
  unfold Ideal.cmp
  by_cases h : x < y <;> simp [Scalar.select, h]

/-- A left shift by 23, as the vector unit does it. -/
theorem shl23 (x : BitVec 32) : IntOp.shli .vector x 23#32 = x <<< 23 := by
  unfold IntOp.shli
  rw [if_pos (by decide)]
  rfl

/-- The powers of two the body compares with. -/
theorem pay111_apply (i : S32x255.Idx) : k0_pay111 (F := Ideal) i = thr (i 1).val := by
  show Ideal.ofBits .f32 (IntOp.shli .vector (BitVec.ofNat 32 (0 * 255 + (i 1).val) + 1#32) 23#32) = _
  rw [shl23]
  unfold thr
  congr 2
  rw [Nat.zero_mul, Nat.zero_add, ← BitVec.ofNat_add]

/-- One comparison as a number. -/
theorem bit_val (x y : EReal) : (((BitVec.setWidth 32 (Ideal.cmp .oge x y)).toInt : ℝ) : EReal) = (((if y ≤ x then 1 else 0 : ℕ) : ℝ) : EReal) := by
  unfold Ideal.cmp
  by_cases h : y ≤ x
  · simp only [h, decide_true, if_true]
    have : (BitVec.setWidth 32 (BitVec.ofBool true)).toInt = 1 := by decide
    rw [this]; simp
  · simp only [h, decide_false, if_false]
    have : (BitVec.setWidth 32 (BitVec.ofBool false)).toInt = 0 := by decide
    rw [this]; simp

/-- A sum of real numbers, as an extended real. -/
theorem coe_sum {n : ℕ} (f : Fin n → ℝ) (s : Finset (Fin n)) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sum of the comparisons is the count. -/
theorem sum_bits (t : EReal) :
    (∑ k : Fin 255, (((BitVec.setWidth 32 (Ideal.cmp .oge t (thr k.val))).toInt : ℝ) : EReal)) = ((cnt t : ℝ) : EReal) := by
  simp only [bit_val]
  rw [coe_sum, ← Nat.cast_sum, Finset.sum_boole]
  rfl

/-- A small whole number cast to an integer. -/
theorem fptosi_nat (n : ℕ) (h : n ≤ 255) : Ideal.fptosi 32 ((n : ℝ) : EReal) = BitVec.ofNat 32 n := by
  unfold Ideal.fptosi
  have : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = _
    rw [if_pos (by positivity), Int.floor_natCast]
    norm_num
    omega
  rw [this]
  rfl

/-- At most 255 powers are counted. -/
theorem cnt_le (t : EReal) : cnt t ≤ 255 := by
  unfold cnt
  exact (Finset.card_le_univ _).trans (by simp)

/-- The comparisons of a row's quotient with the powers of two, summed. -/
def sumBits (q : FVec Ideal S32x255 .f32) : FVec Ideal S32x1 .f32 :=
  shapeCast S32x1 (multiReduction .add [1] S32 (sitofp .f32 (extui 32 (cmpf .oge q (k0_pay111 (F := Ideal))) natLt_1_32))
    0x00000000#32 reduces_S32x255_S32 (.inl rfl) rfl) shapeCasts_S32_S32x1

/-- The exponent field the body computes for a row whose quotient is `t`. -/
theorem pay113_apply (q : FVec Ideal S32x255 .f32) (y : S32x1.Idx) (t : EReal)
    (hq : ∀ i : S32x255.Idx, (i 0).val = (y 0).val → q i = t) :
    k0_pay113 (F := Ideal) k0_pay111 q y = BitVec.ofNat 32 (fieldOf t) := by
  have h1 : sumBits q y = ((cnt t : ℝ) : EReal) := by
    unfold sumBits
    refine (shapeCast_apply _ _ y (ValueIdx.ix1 (⟨(y 0).val, (y 0).isLt⟩ : Fin 32)) ?_).trans
      ((Ideal.multiReduction_add_single _ _ _ _ _ _).trans ?_)
    · rw [Shape.rowMajor_val_one, Shape.rowMajor_val_two]
      have : (y 1).val < 1 := (y 1).isLt
      show (y 0).val = (y 0).val * 1 + (y 1).val
      omega
    rw [← sum_bits]
    refine Finset.sum_congr rfl fun k _ => ?_
    show (((BitVec.setWidth 32 (Ideal.cmp .oge (q _) (k0_pay111 (F := Ideal) _))).toInt : ℝ) : EReal) = _
    rw [hq _ rfl, pay111_apply]
    rfl
  show Scalar.select (IntOp.cmpi .eq (Ideal.fptosi 32 (sumBits q y)) 0#32) 127#32
      (Ideal.fptosi 32 (sumBits q y) + 1#32) = _
  have hc := cnt_le t
  rw [h1, fptosi_nat _ hc, select_eq]
  unfold fieldOf
  by_cases hz : cnt t = 0
  · rw [if_pos (by rw [hz]), if_pos hz]
  · rw [if_neg, if_neg hz, ← BitVec.ofNat_add]
    intro h
    have := congrArg BitVec.toNat h
    simp only [BitVec.toNat_ofNat] at this
    omega

/-- The scale of a row whose quotient is `t`. -/
theorem pay114_apply (q : FVec Ideal S32x255 .f32) (y : S32x1.Idx) (t : EReal)
    (hq : ∀ i : S32x255.Idx, (i 0).val = (y 0).val → q i = t) :
    k0_pay114 (F := Ideal) k0_pay111 q y = Ideal.ofBits .f32 (BitVec.ofNat 32 (fieldOf t) <<< 23) := by
  show Ideal.ofBits .f32 (IntOp.shli .vector (k0_pay113 (F := Ideal) k0_pay111 q y) 23#32) = _
  rw [pay113_apply q y t hq, shl23]

/-- Its inverse, over a row. -/
theorem pay115_apply (q : FVec Ideal S32x255 .f32) (j : S32x128.Idx) (t : EReal)
    (hq : ∀ i : S32x255.Idx, (i 0).val = (j 0).val → q i = t) :
    k0_pay115 (F := Ideal) k0_pay111 q j = Ideal.ofBits .f32 ((254#32 - BitVec.ofNat 32 (fieldOf t)) <<< 23) := by
  have h := fun y hy => pay113_apply q y t (fun i hi => hq i (hi.trans hy))
  unfold k0_pay115
  simp only [shapeCast_self]
  show Ideal.ofBits .f32 (IntOp.shli .vector (254#32 - k0_pay113 (F := Ideal) k0_pay111 q _) 23#32) = _
  rw [h _ rfl, shl23]

end Cert.KernelIdeal.Hand
-- ==== Proof.ISide.lean ====
/- The kernel's three results at extended reals, each as a plain formula of the arguments at an index. -/
module

public import proofs.«01_k».proof.Proof.IKern

@[expose] public section

set_option maxRecDepth 16384

noncomputable section

namespace Cert.KernelIdeal.Hand

open Cert.KernelIdeal.Gen
open Idealize.ShloMosaic Idealize.ShloMosaic.TcCoe Idealize.ShloMosaic.Tactic

variable (X : Vec Ideal S27x192x2x128 .bf16) (sh : Vec Ideal S192x128 .i32)

/-- The chosen one of the two candidates of chunk `c`, row `r`, lane `l`. -/
def xv (c : Fin 27) (r : Fin 192) (l : Fin 128) : EReal :=
  Scalar.select (IntOp.cmpi .ne (sh (ValueIdx.ix2 r l)) 0#32) (X (ValueIdx.ix4 c r (1 : Fin 2) l)) (X (ValueIdx.ix4 c r (0 : Fin 2) l))

/-- The largest magnitude of row `r`. -/
def rmax (r : Fin 192) : EReal :=
  Finset.univ.fold max ⊥ fun l : Fin 128 => Finset.univ.fold max ⊥ fun c : Fin 27 => max (xv X sh c r l) (-xv X sh c r l)

/-- The largest magnitude of row `r` over 448, as a product with the rounded inverse. -/
def qv (r : Fin 192) : EReal := rmax X sh r * Ideal.ofBits .f32 0x3B124925#32

/-- The scale of row `r`. -/
def sv (r : Fin 192) : EReal := Ideal.ofBits .f32 (BitVec.ofNat 32 (fieldOf (qv X sh r)) <<< 23)

/-- The inverse of the scale of row `r`. -/
def iv (r : Fin 192) : EReal := Ideal.ofBits .f32 ((254#32 - BitVec.ofNat 32 (fieldOf (qv X sh r))) <<< 23)

/-- The code of a number `x` under an inverse scale `i`: the scaled number brought into the range of the format. -/
def codeOf (x i : EReal) : EReal := min (Ideal.ofBits .f32 0x43E00000#32) (max (Ideal.ofBits .f32 0xC3E00000#32) (x * i))

/-- The code at row `r` and column `128 c + l`. -/
def cv (c : Fin 27) (r : Fin 192) (l : Fin 128) : EReal := codeOf (xv X sh c r l) (iv X sh r)

/-- The two candidate rows, one parity of the pair. -/
theorem parity_apply (p : Fin 2) (g c : ℕ) (hg : g < 6) (hc : c < 27) (j : S32x128.Idx) (r : Fin 192) (hr : r.val = 32 * g + (j 0).val) :
    (shapeCast S32x128 (shapeCast S1x32x128 (rowsOfParity p S1x32x1x128 (rawOf X g c) bitcasts_S1x32x2x128_w16_S1x32x1x128_w32)
      shapeCasts_S1x32x1x128_S1x32x128) shapeCasts_S1x32x128_S32x128) j = X (ValueIdx.ix4 (⟨c, hc⟩ : Fin 27) r p (⟨(j 1).val, (j 1).isLt⟩ : Fin 128)) := by
  refine (shapeCast_apply _ _ j (ValueIdx.ix3 (0 : Fin 1) (⟨(j 0).val, (j 0).isLt⟩ : Fin 32) (⟨(j 1).val, (j 1).isLt⟩ : Fin 128)) ?_).trans
    ((shapeCast_apply _ _ _ (ValueIdx.ix4 (0 : Fin 1) (⟨(j 0).val, (j 0).isLt⟩ : Fin 32) (0 : Fin 1) (⟨(j 1).val, (j 1).isLt⟩ : Fin 128)) ?_).trans ?_)
  · rw [Shape.rowMajor_val_three, Shape.rowMajor_val_two]
    show (0 * 32 + (j 0).val) * 128 + (j 1).val = (j 0).val * 128 + (j 1).val
    omega
  · rw [Shape.rowMajor_val_three, Shape.rowMajor_val_four]
    show ((0 * 32 + (j 0).val) * 1 + 0) * 128 + (j 1).val = (0 * 32 + (j 0).val) * 128 + (j 1).val
    omega
  · unfold rowsOfParity rawOf
    refine congrArg X (funext fun a => Fin.ext ?_)
    have h1 := Nat.mod_eq_of_lt hg
    have h2 := Nat.mod_eq_of_lt hc
    fin_cases a
    · show c % 27 + 1 * 0 = c
      omega
    · show 32 * (g % 6) + 1 * (j 0).val = r.val
      omega
    · show 0 + 1 * (2 * 0 + p.val) = p.val
      omega
    · show 0 + 1 * (j 1).val = (j 1).val
      omega

/-- The chosen row at an index. -/
theorem sel_apply (g c : ℕ) (hg : g < 6) (hc : c < 27) (j : S32x128.Idx) (r : Fin 192) (hr : r.val = 32 * g + (j 0).val) :
    sel (rawOf X) sh g c j = xv X sh ⟨c, hc⟩ r ⟨(j 1).val, (j 1).isLt⟩ := by
  unfold sel xv
  have e : extractStridedSlice S32x128 ![32 * (g % 6), 0] sh (inS g) j = sh (ValueIdx.ix2 r (⟨(j 1).val, (j 1).isLt⟩ : Fin 128)) := by
    unfold extractStridedSlice
    refine congrArg sh (funext fun a => Fin.ext ?_)
    have h1 := Nat.mod_eq_of_lt hg
    fin_cases a
    · show 32 * (g % 6) + (j 0).val = r.val
      omega
    · show 0 + (j 1).val = (j 1).val
      omega
  show Scalar.select (IntOp.cmpi .ne (extractStridedSlice S32x128 ![32 * (g % 6), 0] sh (inS g) j) 0#32) _ _ = _
  rw [e, parity_apply X 1 g c hg hc j r hr, parity_apply X 0 g c hg hc j r hr]

/-- The zero word of the sixteen-bit format is zero. -/
theorem bf16_zero : Ideal.ofBits .bf16 0#16 = 0 := by
  show Ideal.ieee 8 7 0#16 = 0
  unfold Ideal.ieee
  simp

/-- The accumulator of the maximum is minus infinity. -/
theorem neg_inf : Ideal.ofBits .f32 0xFF800000#32 = ⊥ := by
  show Ideal.ieee 8 23 0xFF800000#32 = ⊥
  unfold Ideal.ieee
  simp

/-- What bounds the running maximum. -/
theorem amaxs_le (g n : ℕ) (j : S32x128.Idx) (b : EReal) :
    (amaxs (rawOf X) sh g n j : EReal) ≤ b ↔ 0 ≤ b ∧ ∀ c < n, max (sel (rawOf X) sh g c j : EReal) (-(sel (rawOf X) sh g c j : EReal)) ≤ b := by
  induction n with
  | zero =>
    show Ideal.ofBits .bf16 0#16 ≤ b ↔ _
    rw [bf16_zero]; simp
  | succ n ih =>
    show max (amaxs (rawOf X) sh g n j : EReal) (max (sel (rawOf X) sh g n j : EReal) (-(sel (rawOf X) sh g n j : EReal))) ≤ b ↔ _
    rw [max_le_iff, ih]
    constructor
    · rintro ⟨⟨h0, h⟩, h1⟩
      refine ⟨h0, fun c hc => ?_⟩
      rcases Nat.lt_succ_iff_lt_or_eq.1 hc with h2 | rfl
      · exact h c h2
      · exact h1
    · rintro ⟨h0, h⟩
      exact ⟨⟨h0, fun c hc => h c (by omega)⟩, h n (by omega)⟩

/-- A magnitude is not negative. -/
theorem abs_nonneg' (x : EReal) : 0 ≤ max x (-x) := by
  rcases le_total 0 x with h | h
  · exact le_max_of_le_left h
  · exact le_max_of_le_right (by simpa using EReal.neg_le_neg_iff.2 h)

/-- The running maximum over all 27 chunks is the maximum over the chunks. -/
theorem amaxs_apply (g : ℕ) (hg : g < 6) (j : S32x128.Idx) (r : Fin 192) (hr : r.val = 32 * g + (j 0).val) :
    (amaxs (rawOf X) sh g 27 j : EReal) = Finset.univ.fold max ⊥ fun c : Fin 27 =>
      max (xv X sh c r ⟨(j 1).val, (j 1).isLt⟩) (-xv X sh c r ⟨(j 1).val, (j 1).isLt⟩) := by
  refine eq_of_forall_ge_iff fun b => ?_
  rw [amaxs_le, Finset.fold_max_le]
  constructor
  · rintro ⟨h0, h⟩
    refine ⟨bot_le, fun c _ => ?_⟩
    have := h c.val c.isLt
    rwa [sel_apply X sh g c.val hg c.isLt j r hr] at this
  · rintro ⟨_, h⟩
    refine ⟨(abs_nonneg' _).trans (h 0 (Finset.mem_univ _)), fun c hc => ?_⟩
    rw [sel_apply X sh g c hg hc j r hr]
    exact h ⟨c, hc⟩ (Finset.mem_univ _)

/-- The quotient of a row. -/
theorem quot_apply (g : ℕ) (hg : g < 6) (y : S32x1.Idx) (r : Fin 192) (hr : r.val = 32 * g + (y 0).val) :
    quot (rawOf X) sh g y = qv X sh r := by
  have h : (shapeCast S32x1 (multiReduction .maximumf [1] S32 (extf .f32 (amaxs (rawOf X) sh g 27) bitsLt_bf16_f32) 0xFF800000#32
      reduces_S32x128_S32 (.inl rfl) rfl) shapeCasts_S32_S32x1) y = rmax X sh r := by
    refine (shapeCast_apply _ _ y (ValueIdx.ix1 (⟨(y 0).val, (y 0).isLt⟩ : Fin 32)) ?_).trans
      ((Ideal.multiReduction_maximumf_single _ _ _ _ _ _).trans ?_)
    · rw [Shape.rowMajor_val_one, Shape.rowMajor_val_two]
      have : (y 1).val < 1 := (y 1).isLt
      show (y 0).val = (y 0).val * 1 + (y 1).val
      omega
    · show Finset.univ.fold max (Ideal.ofBits .f32 0xFF800000#32) _ = _
      rw [neg_inf]
      unfold rmax
      refine Finset.fold_congr fun l _ => ?_
      exact amaxs_apply X sh g hg _ r hr
  unfold quot
  show ((shapeCast S32x1 (multiReduction .maximumf [1] S32 (extf .f32 (amaxs (rawOf X) sh g 27) bitsLt_bf16_f32) 0xFF800000#32
      reduces_S32x128_S32 (.inl rfl) rfl) shapeCasts_S32_S32x1 y : EReal)) * Ideal.ofBits .f32 0x3B124925#32 = _
  exact congrArg (· * Ideal.ofBits .f32 0x3B124925#32) h

/-- The same, repeated along a row. -/
theorem quots_apply (g : ℕ) (hg : g < 6) (n : ℕ) (r : Fin 192) (hr : r.val = 32 * g + n) (i : S32x255.Idx) (hi : (i 0).val = n) :
    quots (rawOf X) sh g i = qv X sh r := by
  unfold quots
  refine (broadcastTo_apply _ _ i (ValueIdx.ix2 (⟨(i 0).val, (i 0).isLt⟩ : Fin 32) (0 : Fin 1)) ?_).trans
    (quot_apply X sh g hg _ r (by rw [hr, ← hi]))
  intro a
  fin_cases a <;> rfl

/-- The scale of a row. -/
theorem scl_apply (g : ℕ) (hg : g < 6) (y : S32x1.Idx) (r : Fin 192) (hr : r.val = 32 * g + (y 0).val) :
    scl (rawOf X) sh g y = sv X sh r :=
  pay114_apply _ y _ fun i hi => quots_apply X sh g hg _ r hr i hi

/-- The code at an index. -/
theorem pay116_apply (y : S192x3456.Idx) (c : Fin 27) (r : Fin 192) (l : Fin 128) (hr : r.val = (y 0).val)
    (hc : c.val = (y 1).val / 128) (hl : l.val = (y 1).val % 128) :
    k0_pay116 (F := Ideal) k0_pay111 (quots (rawOf X) sh ((y 0).val / 32))
      (shapeCast S32x128 (sel (rawOf X) sh ((y 0).val / 32) ((y 1).val / 128)) shapeCasts_S32x128_S32x128) (loc y) = cv X sh c r l := by
  have h0 : (y 0).val < 192 := (y 0).isLt
  have hg : (y 0).val / 32 < 6 := by omega
  have hr' : r.val = 32 * ((y 0).val / 32) + (loc y 0).val := by
    show r.val = 32 * ((y 0).val / 32) + (y 0).val % 32
    omega
  rw [shapeCast_self]
  show min (Ideal.ofBits .f32 0x43E00000#32) (max (Ideal.ofBits .f32 0xC3E00000#32) ((sel (rawOf X) sh ((y 0).val / 32) ((y 1).val / 128) (loc y) : EReal)
    * (k0_pay115 (F := Ideal) k0_pay111 (quots (rawOf X) sh ((y 0).val / 32)) (loc y) : EReal))) = _
  rw [pay115_apply _ _ (qv X sh r) fun i hi => quots_apply X sh _ hg _ r hr' i hi,
    sel_apply X sh _ _ hg (hc ▸ c.isLt) (loc y) r hr']
  have e1 : (⟨(y 1).val / 128, hc ▸ c.isLt⟩ : Fin 27) = c := Fin.ext hc.symm
  have e2 : (⟨(loc y 1).val, (loc y 1).isLt⟩ : Fin 128) = l := Fin.ext hl.symm
  rw [e1, e2]
  rfl

/-- The code at an index, as stored. -/
theorem codes_apply (y : S192x3456.Idx) (c : Fin 27) (r : Fin 192) (l : Fin 128) (hr : r.val = (y 0).val)
    (hc : c.val = (y 1).val / 128) (hl : l.val = (y 1).val % 128) :
    codesArr X sh y = cv X sh c r l := by
  unfold codesArr codesVal k0_pay117
  simp only [shapeCast_self]
  exact (by simpa only [shapeCast_self] using pay116_apply X sh y c r l hr hc hl)

/-- The staged number at an index is the same number. -/
theorem staged_apply (y : S192x3456.Idx) (c : Fin 27) (r : Fin 192) (l : Fin 128) (hr : r.val = (y 0).val)
    (hc : c.val = (y 1).val / 128) (hl : l.val = (y 1).val % 128) :
    stagedVal (rawOf X) sh y = cv X sh c r l := by
  unfold stagedVal k0_pay118
  simp only [shapeCast_self]
  have h := pay116_apply X sh y c r l hr hc hl
  simp only [shapeCast_self] at h
  exact h

/-- The scales of all rows. -/
theorem scls_apply (y : S192x1.Idx) (r : Fin 192) (hr : r.val = (y 0).val) : scls (rawOf X) sh y = sv X sh r := by
  have h0 : (y 0).val < 192 := (y 0).isLt
  have h1 : (y 1).val < 1 := (y 1).isLt
  have key : ∀ (g : ℕ) (hg : g < 6) (ha : 32 * g ≤ (y 0).val) (hb : (y 0).val < 32 * g + 32),
      scls (rawOf X) sh y = scl (rawOf X) sh g (ValueIdx.ix2 (⟨(y 0).val - 32 * g, by omega⟩ : Fin 32) (0 : Fin 1)) := by
    intro g hg ha hb
    unfold scls k0_pay1271
    have hi : ∀ b : Fin S32x1.rank, b.cast (show S32x1.rank = S192x1.rank from rfl) ≠ 0 →
        ((ValueIdx.ix2 (⟨(y 0).val - 32 * g, by omega⟩ : Fin 32) (0 : Fin 1) : S32x1.Idx) b).val = (y (b.cast rfl)).val := by
      intro b hb
      fin_cases b
      · exact absurd rfl hb
      · show 0 = (y 1).val
        omega
    have hs : 32 * g + ((ValueIdx.ix2 (⟨(y 0).val - 32 * g, by omega⟩ : Fin 32) (0 : Fin 1) : S32x1.Idx) 0).val = (y 0).val := by
      show 32 * g + ((y 0).val - 32 * g) = (y 0).val
      omega
    interval_cases g
    · exact concatenate_apply_piece 0 _ _ y 0 (by simp) S32x1 _ rfl rfl _ rfl _ hi hs
    · exact concatenate_apply_piece 0 _ _ y 1 (by simp) S32x1 _ rfl rfl _ rfl _ hi hs
    · exact concatenate_apply_piece 0 _ _ y 2 (by simp) S32x1 _ rfl rfl _ rfl _ hi hs
    · exact concatenate_apply_piece 0 _ _ y 3 (by simp) S32x1 _ rfl rfl _ rfl _ hi hs
    · exact concatenate_apply_piece 0 _ _ y 4 (by simp) S32x1 _ rfl rfl _ rfl _ hi hs
    · exact concatenate_apply_piece 0 _ _ y 5 (by simp) S32x1 _ rfl rfl _ rfl _ hi hs
  rw [key ((y 0).val / 32) (by omega) (by omega) (by omega)]
  refine scl_apply X sh _ (by omega) _ r ?_
  show r.val = 32 * ((y 0).val / 32) + ((y 0).val - 32 * ((y 0).val / 32))
  omega

/-- The scales, as stored. -/
theorem sclArr_apply (y : S192.Idx) (r : Fin 192) (hr : r.val = (y 0).val) : sclArr X sh y = sv X sh r := by
  unfold sclArr
  refine (shapeCast_apply _ _ y (ValueIdx.ix2 r (0 : Fin 1)) ?_).trans (scls_apply X sh _ r rfl)
  rw [Shape.rowMajor_val_one, Shape.rowMajor_val_two]
  show r.val * 1 + 0 = (y 0).val
  omega

/-- The product at an index: the sum over all columns of code times weight, times the row scale, times the column scale. -/
theorem y_apply (x2 : Vec Ideal S1x2816 .f32) (w : Vec Ideal S3456x2816 .fp8e4m3) (y : S192x2816.Idx) (r : Fin 192) (o : Fin 2816)
    (hr : r.val = (y 0).val) (ho : o.val = (y 1).val) :
    yArr X sh x2 w y = (∑ k : Fin 3456, cv X sh ⟨k.val / 128, by omega⟩ r ⟨k.val % 128, by omega⟩ * (w (ValueIdx.ix2 k o) : EReal))
      * sv X sh r * (x2 (ValueIdx.ix2 (0 : Fin 1) o) : EReal) := by
  unfold yArr ySlab k0_pay1289
  simp only [shapeCast_self]
  have h1 : (y 1).val < 2816 := (y 1).isLt
  have hn : (y 1).val / 256 % 11 = (y 1).val / 256 := Nat.mod_eq_of_lt (by omega)
  have hm : (FloatOps.matmul (F := Ideal) (φ₁ := .bf16) (φ₂ := .bf16) dot_S192x3456_S3456x256_S192x256_1_0_0_1_n_n none (stagedVal (rawOf X) sh)
      (k0_pay1288 (F := Ideal) fun x => w ((wRect ((y 1).val / 256)).emb x)) (constant S192x256 .f32 0x00000000#32) (locY y) : EReal)
      = ∑ k : Fin 3456, cv X sh ⟨k.val / 128, by omega⟩ r ⟨k.val % 128, by omega⟩ * (w (ValueIdx.ix2 k o) : EReal) := by
    rw [Ideal.matmul_constant_zero_apply]
    refine Fintype.sum_equiv (ValueIdx.contrEquiv1 _ 3456 rfl rfl) _ _ fun k => ?_
    refine congrArg₂ (· * ·) ?_ ?_
    · exact staged_apply X sh _ _ r _ (by rw [hr]; rfl) rfl rfl
    · show w _ = w _
      refine congrArg w (funext fun a => Fin.ext ?_)
      fin_cases a
      · show 0 + 1 * _ = _
        rw [Nat.zero_add, Nat.one_mul]; rfl
      · show 256 * ((y 1).val / 256 % 11) + 1 * ((y 1).val % 256) = o.val
        omega
  have hsc : (broadcastTo S192x256 (scls (rawOf X) sh) broadcasts_S192x1_S192x256 (locY y) : EReal) = sv X sh r := by
    refine (broadcastTo_apply _ _ _ (ValueIdx.ix2 r (0 : Fin 1)) ?_).trans (scls_apply X sh _ r rfl)
    intro a
    fin_cases a
    · exact hr
    · rfl
  have hcs : (broadcastTo S192x256 (fun x => x2 ((cRect ((y 1).val / 256)).emb x)) broadcasts_S1x256_S192x256 (locY y) : EReal)
      = x2 (ValueIdx.ix2 (0 : Fin 1) o) := by
    refine (broadcastTo_apply _ _ _ (ValueIdx.ix2 (0 : Fin 1) (⟨(y 1).val % 256, Nat.mod_lt _ (by decide)⟩ : Fin 256)) ?_).trans ?_
    · intro a
      fin_cases a <;> rfl
    · refine congrArg x2 (funext fun a => Fin.ext ?_)
      fin_cases a
      · rfl
      · show 256 * ((y 1).val / 256 % 11) + 1 * ((y 1).val % 256) = o.val
        omega
  refine congrArg₂ (· * ·) (congrArg₂ (· * ·) hm hsc) hcs

end Cert.KernelIdeal.Hand
-- ==== Proof.RSide.lean ====
/- The reference's three results at extended reals, each as a plain formula of the arguments at an index. -/
module

public import proofs.«01_k».proof.Proof.RRun
public import proofs.«01_k».proof.Proof.ISide

@[expose] public section

set_option maxRecDepth 16384

noncomputable section

namespace Cert.ReferenceIdeal.Hand

set_option maxRecDepth 100000

open Cert.ReferenceIdeal Cert.ReferenceIdeal.Gen
open Idealize.ShloMosaic Idealize.ShloMosaic.TcCoe
open Cert.KernelIdeal.Hand (xv rmax qv expOf codeOf cand select_lt select_ne neg_inf)

variable (X : Vec Ideal S27x192x2x128 .bf16) (sh : Vec Ideal S192x128 .i32) (w : Vec Ideal S3456x2816 .fp8e4m3) (ws : Vec Ideal S2816 .f32)

/-- The constant 126. -/
theorem c126 : Ideal.ofBits .f32 0x42FC0000#32 = ((126 : ℝ) : EReal) := by
  show Ideal.ieee 8 23 0x42FC0000#32 = _
  unfold Ideal.ieee
  simp
  rw [← EReal.coe_mul]
  norm_num

/-- The constant 129. -/
theorem c129 : Ideal.ofBits .f32 0x43010000#32 = ((129 : ℝ) : EReal) := by
  show Ideal.ieee 8 23 0x43010000#32 = _
  unfold Ideal.ieee
  simp
  rw [← EReal.coe_mul]
  norm_num

/-- The constant -126. -/
theorem cm126 : Ideal.ofBits .f32 0xC2FC0000#32 = ((-126 : ℝ) : EReal) := by
  show Ideal.ieee 8 23 0xC2FC0000#32 = _
  unfold Ideal.ieee
  simp
  rw [← EReal.coe_mul]
  norm_num

/-- The accumulator of the minimum is infinity. -/
theorem pos_inf : Ideal.ofBits .f32 0x7F800000#32 = ⊤ := by
  show Ideal.ieee 8 23 0x7F800000#32 = ⊤
  unfold Ideal.ieee
  simp

/-- The constant 0. -/
theorem c0 : Ideal.ofBits .f32 0x00000000#32 = 0 := Ideal.ofBits_zero_f32

/-- The choice words, loaded. -/
theorem ld_sh : View.ld sh r0_0 = sh := View.ld_unit_zero (S := S192x128) hz1 _ sh

/-- The second rows of the pairs, loaded. -/
theorem ld_hi (c : Fin 27) (r : Fin 192) (l : Fin 128) :
    View.ld X r0_1 (ValueIdx.ix4 c r (0 : Fin 1) l) = X (ValueIdx.ix4 c r (1 : Fin 2) l) := by
  refine congrArg X (funext fun a => Fin.ext ?_)
  fin_cases a
  · show 0 + 1 * c.val = c.val
    omega
  · show 0 + 1 * r.val = r.val
    omega
  · rfl
  · show 0 + 1 * l.val = l.val
    omega

/-- The first rows of the pairs, loaded. -/
theorem ld_lo (c : Fin 27) (r : Fin 192) (l : Fin 128) :
    View.ld X r0_2 (ValueIdx.ix4 c r (0 : Fin 1) l) = X (ValueIdx.ix4 c r (0 : Fin 2) l) := by
  refine congrArg X (funext fun a => Fin.ext ?_)
  fin_cases a
  · show 0 + 1 * c.val = c.val
    omega
  · show 0 + 1 * r.val = r.val
    omega
  · rfl
  · show 0 + 1 * l.val = l.val
    omega

/-- A vector of pairs' halves without its unit axis. -/
theorem cand_apply (P : Vec Ideal S27x192x1x128 .bf16) (i : S27x192x128.Idx) (c : Fin 27) (r : Fin 192) (l : Fin 128)
    (hc : c.val = (i 0).val) (hr : r.val = (i 1).val) (hl : l.val = (i 2).val) :
    shapeCast S27x192x128 P shapeCasts_S27x192x1x128_S27x192x128 i = P (ValueIdx.ix4 c r (0 : Fin 1) l) := by
  refine shapeCast_apply _ _ i (ValueIdx.ix4 c r (0 : Fin 1) l) ?_
  rw [Shape.rowMajor_val_three, Shape.rowMajor_val_four]
  show ((c.val * 192 + r.val) * 1 + 0) * 128 + l.val = ((i 0).val * 192 + (i 1).val) * 128 + (i 2).val
  omega

/-- The chosen one of each pair. -/
theorem pay4_apply (i : S27x192x128.Idx) (c : Fin 27) (r : Fin 192) (l : Fin 128)
    (hc : c.val = (i 0).val) (hr : r.val = (i 1).val) (hl : l.val = (i 2).val) :
    k0_pay4 (F := Ideal) (View.ld sh r0_0) (View.ld X r0_1) (View.ld X r0_2) i = xv X sh c r l := by
  have e : broadcastTo S27x192x128 (shapeCast S1x192x128 (cmpi .ne (shapeCast S1x192x128 (View.ld sh r0_0) shapeCasts_S192x128_S1x192x128)
      (broadcast S1x192x128 0#32)) shapeCasts_S1x192x128_S1x192x128) broadcasts_S1x192x128_S27x192x128 i
      = IntOp.cmpi .ne (sh (ValueIdx.ix2 r l)) 0#32 := by
    rw [shapeCast_self, ld_sh]
    refine (broadcastTo_apply _ _ i (ValueIdx.ix3 (0 : Fin 1) r l) ?_).trans ?_
    · intro a
      fin_cases a
      · rfl
      · exact hr
      · exact hl
    · refine congrArg (fun x => IntOp.cmpi .ne x 0#32) ((shapeCast_apply _ _ _ (ValueIdx.ix2 r l) ?_ : _ = _))
      rw [Shape.rowMajor_val_three, Shape.rowMajor_val_two]
      show r.val * 128 + l.val = (0 * 192 + r.val) * 128 + l.val
      omega
  have e1 := (cand_apply (View.ld X r0_1) i c r l hc hr hl).trans (ld_hi X c r l)
  have e2 := (cand_apply (View.ld X r0_2) i c r l hc hr hl).trans (ld_lo X c r l)
  unfold k0_pay4 xv
  show Scalar.select (broadcastTo S27x192x128 (shapeCast S1x192x128 (cmpi .ne (shapeCast S1x192x128 (View.ld sh r0_0) shapeCasts_S192x128_S1x192x128)
      (broadcast S1x192x128 0#32)) shapeCasts_S1x192x128_S1x192x128) broadcasts_S1x192x128_S27x192x128 i)
    (shapeCast S27x192x128 (View.ld X r0_1) shapeCasts_S27x192x1x128_S27x192x128 i)
    (shapeCast S27x192x128 (View.ld X r0_2) shapeCasts_S27x192x1x128_S27x192x128 i) = _
  rw [e, e1, e2]

/-- The greatest magnitude over the chunks, at each lane. -/
def laneR : FVec Ideal S192x128 .f32 :=
  multiReduction .maximumf [0] S192x128
    (absf (k0_pay4 (View.ld sh r0_0) (View.ld X r0_1) (View.ld X r0_2))) 0xFF800000#32 reduces_S27x192x128_S192x128 (.inl rfl) rfl

/-- At a lane it is the maximum over the chunks. -/
theorem laneR_apply (i : S192x128.Idx) (r : Fin 192) (l : Fin 128) (hr : r.val = (i 0).val) (hl : l.val = (i 1).val) :
    laneR X sh i = Finset.univ.fold max ⊥ fun c : Fin 27 => max (xv X sh c r l) (-(xv X sh c r l)) := by
  refine (Ideal.multiReduction_maximumf_single _ _ _ _ _ _).trans ?_
  show Finset.univ.fold max (Ideal.ofBits .f32 0xFF800000#32) _ = _
  rw [neg_inf]
  refine Finset.fold_congr fun c _ => ?_
  exact congrArg (fun x : EReal => max x (-x)) (pay4_apply X sh _ c r l rfl hr hl)

/-- The row maximum. -/
def rowR : FVec Ideal S192x1 .f32 :=
  shapeCast S192x1 (multiReduction .maximumf [1] S192 (laneR X sh)
      0xFF800000#32 reduces_S192x128_S192 (.inl rfl) rfl) shapeCasts_S192_S192x1

/-- At a row it is the maximum over the lanes and chunks. -/
theorem rowR_apply (y : S192x1.Idx) (r : Fin 192) (hr : r.val = (y 0).val) : rowR X sh y = rmax X sh r := by
  refine (shapeCast_apply _ _ y (ValueIdx.ix1 r) ?_).trans ((Ideal.multiReduction_maximumf_single _ _ _ _ _ _).trans ?_)
  · rw [Shape.rowMajor_val_one, Shape.rowMajor_val_two]
    have : (y 1).val < 1 := (y 1).isLt
    show r.val = (y 0).val * 1 + (y 1).val
    omega
  · show Finset.univ.fold max (Ideal.ofBits .f32 0xFF800000#32) _ = _
    rw [neg_inf]
    unfold rmax
    refine Finset.fold_congr fun l _ => ?_
    have h2 := laneR_apply X sh (reduces_S192x128_S192.lift (ValueIdx.ix1 r) l) r l rfl rfl
    rw [Function.comp_apply]
    refine Eq.trans ?_ h2
    rfl

/-- The row maximum over 448. -/
def quotR : FVec Ideal S192x1 .f32 :=
  mulf (rowR X sh) (broadcast S192x1 (Scalar.ofBits .f32 0x3B124925#32))

/-- At a row it is the quotient of the row. -/
theorem quotR_apply (y : S192x1.Idx) (r : Fin 192) (hr : r.val = (y 0).val) : quotR X sh y = qv X sh r :=
  congrArg (fun x : EReal => x * Ideal.ofBits .f32 0x3B124925#32) (rowR_apply X sh y r hr)

/-- The candidate exponents. -/
def candsR : FVec Ideal S192x256 .f32 :=
  subf (sitofp .f32 (iota .tc S192x256 32 [1] iota_S192x256_d1_w32)) (broadcast S192x256 (Scalar.ofBits .f32 0x42FC0000#32))

/-- Candidate `k` is `k - 126`. -/
theorem candsR_apply (i : S192x256.Idx) (k : ℕ) (hk : k = (i 1).val) : candsR i = cand k := by
  have h : (i 1).val < 256 := (i 1).isLt
  show ((((BitVec.ofNat 32 (0 * 256 + (i 1).val)).toInt : ℝ) : EReal)) - Ideal.ofBits .f32 0x42FC0000#32 = _
  have e : (BitVec.ofNat 32 (0 * 256 + (i 1).val)).toInt = (k : ℤ) := by
    rw [BitVec.toInt_eq_toNat_of_lt] <;> simp only [BitVec.toNat_ofNat] <;> omega
  rw [e, c126, ← EReal.coe_sub]
  rfl

/-- The exponents' candidates, those whose power exceeds the quotient. -/
def aboveR : FVec Ideal S192x256 .f32 :=
  select (cmpf .olt (broadcastTo S192x256 (quotR X sh) broadcasts_S192x1_S192x256) (exp2 candsR)) candsR
    (broadcast S192x256 (Scalar.ofBits .f32 0x43010000#32))

/-- A candidate is kept where its power exceeds the quotient, and is 129 elsewhere. -/
theorem aboveR_apply (i : S192x256.Idx) (r : Fin 192) (k : ℕ) (hr : r.val = (i 0).val) (hk : k = (i 1).val) :
    aboveR X sh i = if qv X sh r < Ideal.exp2 (cand k) then cand k else ((129 : ℝ) : EReal) := by
  have hb : broadcastTo S192x256 (quotR X sh) broadcasts_S192x1_S192x256 i = qv X sh r := by
    refine (broadcastTo_apply _ _ _ (ValueIdx.ix2 r (0 : Fin 1)) ?_).trans (quotR_apply X sh _ r rfl)
    intro a
    fin_cases a
    · exact hr
    · rfl
  show Scalar.select (Ideal.cmp .olt (broadcastTo S192x256 (quotR X sh) broadcasts_S192x1_S192x256 i) (Ideal.exp2 (candsR i))) (candsR i)
    (Ideal.ofBits .f32 0x43010000#32) = _
  rw [hb, candsR_apply i k hk, select_lt, c129]

/-- The least of them in each row. -/
theorem leastR_apply (y : S192x1.Idx) (r : Fin 192) (hr : r.val = (y 0).val) :
    (shapeCast S192x1 (multiReduction .minimumf [1] S192 (aboveR X sh) 0x7F800000#32 reduces_S192x256_S192 (.inl rfl) rfl)
      shapeCasts_S192_S192x1) y = Finset.univ.fold min ⊤ (fun k : Fin 256 =>
        if qv X sh r < Ideal.exp2 (cand k) then cand k else ((129 : ℝ) : EReal)) := by
  refine (shapeCast_apply _ _ y (ValueIdx.ix1 r) ?_).trans ((multiReduction_minimumf_eq_fold _ _ _ _ _ _).trans
      ((Shape.Reduces.fold_filter_drop_single _ _ _ _ _).trans ?_))
  · rw [Shape.rowMajor_val_one, Shape.rowMajor_val_two]
    have : (y 1).val < 1 := (y 1).isLt
    show r.val = (y 0).val * 1 + (y 1).val
    omega
  · show Finset.univ.fold min (Ideal.ofBits .f32 0x7F800000#32) _ = _
    rw [pos_inf]
    refine Finset.fold_congr fun k _ => ?_
    exact aboveR_apply X sh _ r k.val rfl rfl

/-- The row exponents. -/
theorem pay5_apply (y : S192x1.Idx) (r : Fin 192) (hr : r.val = (y 0).val) :
    k0_pay5 (F := Ideal) (View.ld sh r0_0) (View.ld X r0_1) (View.ld X r0_2) y = expOf (qv X sh r) := by
  unfold expOf
  rw [← leastR_apply X sh y r hr, ← cm126, ← quotR_apply X sh y r hr, ← c0]
  exact select_lt _ _ _ _

/-- The scales. -/
theorem G6_apply (y : S192.Idx) (r : Fin 192) (hr : r.val = (y 0).val) : G6 X sh w ws y = Ideal.exp2 (expOf (qv X sh r)) := by
  unfold G6 k0_pay2
  refine (shapeCast_apply _ _ y (ValueIdx.ix2 r (0 : Fin 1)) ?_).trans ?_
  · rw [Shape.rowMajor_val_one, Shape.rowMajor_val_two]
    show r.val * 1 + 0 = (y 0).val
    omega
  · exact congrArg Ideal.exp2 (pay5_apply X sh _ r rfl)

/-- The inverse scales. -/
theorem pay7_apply (y : S1x192x1.Idx) (r : Fin 192) (hr : r.val = (y 1).val) :
    k0_pay7 (F := Ideal) (View.ld sh r0_0) (View.ld X r0_1) (View.ld X r0_2) y = Ideal.exp2 (0 - expOf (qv X sh r)) := by
  have h0 : (y 0).val < 1 := (y 0).isLt
  have h2 : (y 2).val < 1 := (y 2).isLt
  unfold k0_pay7
  refine (shapeCast_apply _ _ y (ValueIdx.ix2 r (0 : Fin 1)) ?_).trans ?_
  · rw [Shape.rowMajor_val_three, Shape.rowMajor_val_two]
    show r.val * 1 + 0 = ((y 0).val * 192 + (y 1).val) * 1 + (y 2).val
    omega
  · show Ideal.exp2 (Ideal.ofBits .f32 0x00000000#32 - (k0_pay5 (F := Ideal) (View.ld sh r0_0) (View.ld X r0_1) (View.ld X r0_2) _ : EReal)) = _
    rw [c0, pay5_apply X sh _ r rfl]

/-- The codes, chunk by chunk. -/
theorem pay8_apply (i : S27x192x128.Idx) (c : Fin 27) (r : Fin 192) (l : Fin 128)
    (hc : c.val = (i 0).val) (hr : r.val = (i 1).val) (hl : l.val = (i 2).val) :
    k0_pay8 (F := Ideal) (k0_pay35 X sh w ws) (k0_pay37 X sh w ws) i
      = codeOf (xv X sh c r l) (Ideal.exp2 (0 - expOf (qv X sh r))) := by
  have hb : broadcastTo S27x192x128 (k0_pay37 (F := Ideal) X sh w ws) broadcasts_S1x192x1_S27x192x128 i = Ideal.exp2 (0 - expOf (qv X sh r)) := by
    refine (broadcastTo_apply _ _ i (ValueIdx.ix3 (0 : Fin 1) r (0 : Fin 1)) ?_).trans (pay7_apply X sh _ r rfl)
    intro a
    fin_cases a
    · rfl
    · exact hr
    · rfl
  exact congrArg₂ codeOf (pay4_apply X sh i c r l hc hr hl) hb

/-- Chunk `n` lies inside the codes. -/
theorem inC (n : Fin 27) : S27x192x128.Slices ![n.val, 0, 0] S1x192x128 := by
  refine ⟨rfl, ?_⟩
  have := n.isLt
  intro a
  fin_cases a <;> simp [S27x192x128, S1x192x128] <;> omega

/-- The codes of chunk `n`. -/
def chunk (n : Fin 27) : S192x128.Idx → Elt Ideal .fp8e4m3 :=
  shapeCast S192x128 (extractStridedSlice S1x192x128 ![n.val, 0, 0] (k0_pay8 (F := Ideal) (k0_pay35 X sh w ws) (k0_pay37 X sh w ws)) (inC n))
    shapeCasts_S1x192x128_S192x128

/-- The codes of a chunk, at an index. -/
theorem chunk_apply (n : Fin 27) (r : Fin 192) (l : Fin 128) :
    chunk X sh w ws n (ValueIdx.ix2 r l) = codeOf (xv X sh n r l) (Ideal.exp2 (0 - expOf (qv X sh r))) := by
  refine (shapeCast_apply _ _ _ (ValueIdx.ix3 (0 : Fin 1) r l) ?_).trans ?_
  · rw [Shape.rowMajor_val_three, Shape.rowMajor_val_two]
    show (0 * 192 + r.val) * 128 + l.val = r.val * 128 + l.val
    omega
  · exact pay8_apply X sh w ws _ n r l rfl (Nat.zero_add _).symm (Nat.zero_add _).symm

/-- The chunks side by side. -/
theorem pay38_eq : ∃ h, k0_pay38 (F := Ideal) X sh w ws
    = concatenate S192x3456 1 (List.ofFn fun n : Fin 27 => (⟨S192x128, chunk X sh w ws n⟩ : (s : Shape) × (s.Idx → Elt Ideal .fp8e4m3))) h :=
  ⟨concatenates_S192x128_S192x128_S192x128_S192x128_S192x128_S192x128_S192x128_S192x128_S192x128_S192x128_S192x128_S192x128_S192x128_S192x128_S192x128_S192x128_S192x128_S192x128_S192x128_S192x128_S192x128_S192x128_S192x128_S192x128_S192x128_S192x128_S192x128_S192x3456_d1, rfl⟩

/-- The codes. -/
theorem G5_apply (y : S192x3456.Idx) (c : Fin 27) (r : Fin 192) (l : Fin 128) (hr : r.val = (y 0).val)
    (hc : c.val = (y 1).val / 128) (hl : l.val = (y 1).val % 128) :
    k0_pay38 (F := Ideal) X sh w ws y = codeOf (xv X sh c r l) (Ideal.exp2 (0 - expOf (qv X sh r))) := by
  obtain ⟨h, e⟩ := pay38_eq X sh w ws
  rw [e]
  refine (concatenate_ofFn_apply (t := S192x3456) (s₁ := S192x128) (1 : Fin 2) (chunk X sh w ws) h rfl 128 rfl y c hc.symm
    (ValueIdx.ix2 r l) hl ?_).trans (chunk_apply X sh w ws c r l)
  intro b hb
  fin_cases b
  · exact hr
  · exact absurd rfl hb

/-- The product: the sum over all columns of code times weight, times the row scale, times the column scale. -/
theorem G4_apply (y : S192x2816.Idx) (r : Fin 192) (o : Fin 2816) (hr : r.val = (y 0).val) (ho : o.val = (y 1).val) :
    G4 X sh w ws y = (∑ k : Fin 3456, codeOf (xv X sh ⟨k.val / 128, by omega⟩ r ⟨k.val % 128, by omega⟩) (Ideal.exp2 (0 - expOf (qv X sh r)))
        * (w (ValueIdx.ix2 k o) : EReal)) * Ideal.exp2 (expOf (qv X sh r)) * (ws (ValueIdx.ix1 o) : EReal) := by
  have hm : (FloatOps.matmul (F := Ideal) (φ₁ := .bf16) (φ₂ := .bf16) dot_S192x3456_S3456x2816_S192x2816_1_0_0_1_n_n none
      (extf .bf16 (k0_pay38 (F := Ideal) X sh w ws) bitsLt_fp8e4m3_bf16) (extf .bf16 w bitsLt_fp8e4m3_bf16) (constant S192x2816 .f32 0x00000000#32) y : EReal)
      = ∑ k : Fin 3456, codeOf (xv X sh ⟨k.val / 128, by omega⟩ r ⟨k.val % 128, by omega⟩) (Ideal.exp2 (0 - expOf (qv X sh r)))
        * (w (ValueIdx.ix2 k o) : EReal) := by
    rw [Ideal.matmul_constant_zero_apply]
    refine Fintype.sum_equiv (ValueIdx.contrEquiv1 _ 3456 rfl rfl) _ _ fun k => ?_
    refine congrArg₂ (· * ·) ?_ ?_
    · exact G5_apply X sh w ws _ _ r _ (by rw [hr]; rfl) rfl rfl
    · show w _ = w _
      refine congrArg w (funext fun a => Fin.ext ?_)
      fin_cases a
      · rfl
      · exact ho.symm
  have hsc : (broadcastTo S192x2816 (k0_pay36 (F := Ideal) X sh w ws) broadcasts_S192x1_S192x2816 y : EReal) = Ideal.exp2 (expOf (qv X sh r)) := by
    refine (broadcastTo_apply _ _ _ (ValueIdx.ix2 r (0 : Fin 1)) ?_).trans (congrArg Ideal.exp2 (pay5_apply X sh _ r rfl))
    intro a
    fin_cases a
    · exact hr
    · rfl
  have hcs : (broadcastTo S192x2816 (shapeCast S1x2816 ws shapeCasts_S2816_S1x2816) broadcasts_S1x2816_S192x2816 y : EReal) = ws (ValueIdx.ix1 o) := by
    refine (broadcastTo_apply _ _ _ (ValueIdx.ix2 (0 : Fin 1) o) ?_).trans ?_
    · intro a
      fin_cases a
      · rfl
      · exact ho
    refine shapeCast_apply _ _ _ (ValueIdx.ix1 o) ?_
    rw [Shape.rowMajor_val_one, Shape.rowMajor_val_two]
    show o.val = 0 * 2816 + o.val
    omega
  exact congrArg₂ (· * ·) (congrArg₂ (· * ·) hm hsc) hcs

end Cert.ReferenceIdeal.Hand
-- ==== Proof.Equal.lean ====
/- The kernel's three results are the reference's: the exponent field counted by comparisons is the least exponent found by
   comparisons, on candidates of finite magnitude. -/
module

public import proofs.«01_k».proof.Defs
public import proofs.«01_k».proof.Proof.Gen.Pre_finite
public import proofs.«01_k».proof.Proof.IValue
public import proofs.«01_k».proof.Proof.RSide

@[expose] public section

set_option maxRecDepth 16384

noncomputable section

namespace Cert.Equal

open Cert.KernelIdeal Cert.KernelIdeal.Hand
open Idealize.ShloMosaic Idealize.ShloMosaic.TcCoe Idealize.SL.Sem
open Cert.ReferenceIdeal.Hand (G4 G5 G6 G4_apply G5_apply G6_apply)

variable (X : Vec Ideal S27x192x2x128 .bf16) (sh : Vec Ideal S192x128 .i32) (w : Vec Ideal S3456x2816 .fp8e4m3) (ws : Vec Ideal S2816 .f32)

/-- The bound of the precondition is `2 ^ 127`. -/
theorem bound : Ideal.ofBits .f32 0x7F000000#32 = (((2 : ℝ) ^ (127 : ℤ) : ℝ) : EReal) := by
  show Ideal.ieee 8 23 0x7F000000#32 = _
  unfold Ideal.ieee
  simp
  simp only [← EReal.coe_pow, ← EReal.coe_mul]
  norm_num

/-- The rounded inverse of 448 is a positive number of at most one half. -/
theorem inv448 : ∃ k : ℝ, Ideal.ofBits .f32 0x3B124925#32 = (k : EReal) ∧ 0 < k ∧ k ≤ 1 / 2 := by
  refine ⟨9586981 * (2 : ℝ) ^ (-32 : ℤ), ?_, by positivity, ?_⟩
  · show Ideal.ieee 8 23 0x3B124925#32 = _
    unfold Ideal.ieee
    simp
  · norm_num

/-- A chosen candidate is below the bound in magnitude when all candidates are. -/
theorem xv_lt (b : EReal) (h : ∀ i, max (X i : EReal) (-(X i : EReal)) < b) (c : Fin 27) (r : Fin 192) (l : Fin 128) :
    max (xv X sh c r l) (-(xv X sh c r l)) < b := by
  unfold xv Scalar.select
  split
  · exact h _
  · exact h _

/-- So is a row's largest magnitude. -/
theorem rmax_lt (b : EReal) (hb : ⊥ < b) (h : ∀ i, max (X i : EReal) (-(X i : EReal)) < b) (r : Fin 192) : rmax X sh r < b := by
  unfold rmax
  refine (Finset.fold_max_lt _).2 ⟨hb, fun l _ => (Finset.fold_max_lt _).2 ⟨hb, fun c _ => ?_⟩⟩
  exact xv_lt X sh b h c r l

/-- It is not negative. -/
theorem rmax_nonneg (r : Fin 192) : 0 ≤ rmax X sh r := by
  unfold rmax
  exact (Finset.le_fold_max _).2 (.inr ⟨0, Finset.mem_univ _, (Finset.le_fold_max _).2 (.inr ⟨0, Finset.mem_univ _, abs_nonneg' _⟩)⟩)

/-- The quotient of a row lies in the range on which the two exponents agree. -/
theorem qv_range (h : ∀ i, max (X i : EReal) (-(X i : EReal)) < (((2 : ℝ) ^ (127 : ℤ) : ℝ) : EReal)) (r : Fin 192) :
    0 ≤ qv X sh r ∧ qv X sh r < (((2 : ℝ) ^ (126 : ℤ) : ℝ) : EReal) := by
  obtain ⟨k, hk, hk0, hk1⟩ := inv448
  have h1 := rmax_lt X sh _ (EReal.bot_lt_coe _) h r
  have h0 := rmax_nonneg X sh r
  unfold qv
  rw [hk]
  generalize rmax X sh r = t at h0 h1
  induction t using EReal.rec with
  | bot => simp at h0
  | top => simp at h1
  | coe t =>
    rw [← EReal.coe_mul]
    have h0' : 0 ≤ t := EReal.coe_nonneg.1 h0
    have h1' : t < (2 : ℝ) ^ (127 : ℤ) := EReal.coe_lt_coe_iff.1 h1
    refine ⟨EReal.coe_nonneg.2 (mul_nonneg h0' hk0.le), EReal.coe_lt_coe_iff.2 ?_⟩
    have e : (2 : ℝ) ^ (127 : ℤ) = 2 * (2 : ℝ) ^ (126 : ℤ) := by norm_num
    have : t * k ≤ t * (1 / 2) := mul_le_mul_of_nonneg_left hk1 h0'
    linarith

/-- The precondition, read: every candidate is below `2 ^ 127` in magnitude. -/
theorem pre_read (h : Cert.Pre_finite.fn (F := Ideal) X sh w ws = fun _ => 1#1) (i : S27x192x2x128.Idx) :
    max (X i : EReal) (-(X i : EReal)) < (((2 : ℝ) ^ (127 : ℤ) : ℝ) : EReal) := by
  have e : Ideal.cmp .olt (max (X i : EReal) (-(X i : EReal))) (Ideal.ofBits .f32 0x7F000000#32) = 1#1 := congrFun h i
  rw [bound] at e
  have s := select_lt (max (X i : EReal) (-(X i : EReal))) (((2 : ℝ) ^ (127 : ℤ) : ℝ) : EReal) true false
  rw [e] at s
  by_contra hn
  rw [if_neg hn] at s
  simp [Scalar.select] at s

variable (h : ∀ i, max (X i : EReal) (-(X i : EReal)) < (((2 : ℝ) ^ (127 : ℤ) : ℝ) : EReal))
include h

/-- The scales agree. -/
theorem sv_eq (r : Fin 192) : sv X sh r = Ideal.exp2 (expOf (qv X sh r)) :=
  (scale_eq _ (qv_range X sh h r).1 (qv_range X sh h r).2).1

/-- The inverse scales agree. -/
theorem iv_eq (r : Fin 192) : iv X sh r = Ideal.exp2 (0 - expOf (qv X sh r)) :=
  (scale_eq _ (qv_range X sh h r).1 (qv_range X sh h r).2).2

/-- The scales' arrays agree. -/
theorem scales_eq : sclArr X sh = G6 X sh w ws := by
  funext y
  have hr : (⟨(y 0).val, (y 0).isLt⟩ : Fin 192).val = (y 0).val := rfl
  exact ((sclArr_apply X sh y _ hr).trans (sv_eq X sh h _)).trans (G6_apply X sh w ws y _ hr).symm

/-- The codes' arrays agree. -/
theorem codes_eq : codesArr X sh = G5 X sh w ws := by
  funext y
  have h1 : (y 1).val < 3456 := (y 1).isLt
  have hr : (⟨(y 0).val, (y 0).isLt⟩ : Fin 192).val = (y 0).val := rfl
  have hc : (⟨(y 1).val / 128, by omega⟩ : Fin 27).val = (y 1).val / 128 := rfl
  have hl : (⟨(y 1).val % 128, by omega⟩ : Fin 128).val = (y 1).val % 128 := rfl
  refine ((codes_apply X sh y _ _ _ hr hc hl).trans ?_).trans (G5_apply X sh w ws y _ _ _ hr hc hl).symm
  unfold cv
  rw [iv_eq X sh h]

/-- The products agree. -/
theorem product_eq : yArr X sh (shapeCast S1x2816 ws Cert.KernelIdeal.Gen.shapeCasts_S2816_S1x2816) w = G4 X sh w ws := by
  funext y
  have hr : (⟨(y 0).val, (y 0).isLt⟩ : Fin 192).val = (y 0).val := rfl
  have ho : (⟨(y 1).val, (y 1).isLt⟩ : Fin 2816).val = (y 1).val := rfl
  refine ((y_apply X sh _ w y _ _ hr ho).trans ?_).trans (G4_apply X sh w ws y _ _ hr ho).symm
  unfold cv
  rw [iv_eq X sh h, sv_eq X sh h]
  refine congrArg₂ (fun a b : EReal => a * b) rfl ?_
  refine shapeCast_apply _ _ _ (ValueIdx.ix1 (⟨(y 1).val, (y 1).isLt⟩ : Fin 2816)) ?_
  rw [Shape.rowMajor_val_one, Shape.rowMajor_val_two]
  show (y 1).val = 0 * 2816 + (y 1).val
  omega

omit h in
/-- The kernel and the reference, run on equal arguments of finite magnitude, end with equal results. -/
theorem algebraic : Cert.algebraic_KernelIdeal_ReferenceIdeal_pre_finite := by
  intro m g m' g' hp ha
  refine ⟨fun c => Yres m c, fun c => Cres m c, fun c => Sres m c, Cert.KernelIdeal.Hand.run m g, ?_⟩
  refine (θ_run _ _ _).mono (fun r hr c => ?_) (Cert.ReferenceIdeal.Hand.run m' g')
  obtain ⟨a0, a1, a2, a3⟩ := ha c
  obtain ⟨r4, r5, r6, ra⟩ := hr c
  have hx := pre_read _ _ _ _ (hp c)
  refine ⟨r4.trans ?_, r5.trans ?_, r6.trans ?_, ra⟩
  · rw [a0, a1, a2, a3]
    exact (product_eq _ _ _ _ hx).symm
  · rw [a0, a1, a2, a3]
    exact (codes_eq _ _ _ _ hx).symm
  · rw [a0, a1, a2, a3]
    exact (scales_eq _ _ _ _ hx).symm

end Cert.Equal

end
-- ==== Proof.lean ====
module

public import proofs.«01_k».proof.Defs
public import proofs.«01_k».proof.Proof.BFrame
public import proofs.«01_k».proof.Proof.IFrame
public import proofs.«01_k».proof.Proof.Equal
public import proofs.«01_k».proof.Proof.Gen.ReferenceIdeal.Frame
public import proofs.«01_k».proof.Proof.Gen.Pre_finite
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The kernel and its idealisation read their packed words alike. -/
theorem preserves : Cert.preserves_Kernel_KernelIdeal :=
  ⟨IdealRules.bf16_pair.statement _ _, IdealRules.bf16_pair.selectZeroStatement _, IdealRules.bf16_pair.halfStatement _⟩

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  preserves,
  Cert.Equal.algebraic⟩

end Cert.Proof

end
